-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def preserves_Kernel_KernelIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v2)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v2) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v30) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v1_0)) (v1 : (c : Dev Cert.InprojIdeal.nD) → Buf (Elt Ideal) ((c.tc : Thread Cert.InprojIdeal.nD Cert.InprojIdeal.τ).loc Cert.InprojIdeal.main_v1_1)) (v2 : (c : Dev Cert.InprojIdeal.nD) → Buf (Elt Ideal) ((c.tc : Thread Cert.InprojIdeal.nD Cert.InprojIdeal.τ).loc Cert.InprojIdeal.main_v1_2)) (v3 : (c : Dev Cert.InprojIdeal.nD) → Buf (Elt Ideal) ((c.tc : Thread Cert.InprojIdeal.nD Cert.InprojIdeal.τ).loc Cert.InprojIdeal.main_v1_3)) (v4 : (c : Dev Cert.InprojIdeal.nD) → Buf (Elt Ideal) ((c.tc : Thread Cert.InprojIdeal.nD Cert.InprojIdeal.τ).loc Cert.InprojIdeal.main_v1_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1_0) = v0 c
          ∧ r.2.mem ((c.tc : Thread Cert.InprojIdeal.nD Cert.InprojIdeal.τ).loc Cert.InprojIdeal.main_v1_1) = v1 c
          ∧ r.2.mem ((c.tc : Thread Cert.InprojIdeal.nD Cert.InprojIdeal.τ).loc Cert.InprojIdeal.main_v1_2) = v2 c
          ∧ r.2.mem ((c.tc : Thread Cert.InprojIdeal.nD Cert.InprojIdeal.τ).loc Cert.InprojIdeal.main_v1_3) = v3 c
          ∧ r.2.mem ((c.tc : Thread Cert.InprojIdeal.nD Cert.InprojIdeal.τ).loc Cert.InprojIdeal.main_v1_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v16) = v0 c
          ∧ r.2.mem ((c.tc : Thread Cert.InprojRefIdeal.nD Cert.InprojRefIdeal.τ).loc Cert.InprojRefIdeal.main_v17) = v1 c
          ∧ r.2.mem ((c.tc : Thread Cert.InprojRefIdeal.nD Cert.InprojRefIdeal.τ).loc Cert.InprojRefIdeal.main_v18) = v2 c
          ∧ r.2.mem ((c.tc : Thread Cert.InprojRefIdeal.nD Cert.InprojRefIdeal.τ).loc Cert.InprojRefIdeal.main_v19) = v3 c
          ∧ r.2.mem ((c.tc : Thread Cert.InprojRefIdeal.nD Cert.InprojRefIdeal.τ).loc Cert.InprojRefIdeal.main_v20) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hFfnMid : Cert.FfnMid.Facts) (hFfnMidIdeal : Cert.FfnMidIdeal.Facts) (hFfnMidRefIdeal : Cert.FfnMidRefIdeal.Facts) (hInproj : Cert.Inproj.Facts) (hInprojIdeal : Cert.InprojIdeal.Facts) (hInprojRefIdeal : Cert.InprojRefIdeal.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_Inproj (hInproj := hInproj)
    ∧ quiescent_InprojIdeal (hInprojIdeal := hInprojIdeal)
    ∧ quiescent_InprojRefIdeal (hInprojRefIdeal := hInprojRefIdeal)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_FfnMid_FfnMidIdeal
    ∧ algebraic_FfnMidIdeal_FfnMidRefIdeal (hFfnMidIdeal := hFfnMidIdeal) (hFfnMidRefIdeal := hFfnMidRefIdeal)
    ∧ preserves_Inproj_InprojIdeal
    ∧ algebraic_InprojIdeal_InprojRefIdeal (hInprojIdeal := hInprojIdeal) (hInprojRefIdeal := hInprojRefIdeal)
-- ==== Kernel.lean ====
abbrev S4x4096x7168 : Shape := ⟨3, ![4, 4096, 7168]⟩
abbrev S4x4096x2048 : Shape := ⟨3, ![4, 4096, 2048]⟩
abbrev S1x2048x2048 : Shape := ⟨3, ![1, 2048, 2048]⟩
abbrev S4x1536 : Shape := ⟨2, ![4, 1536]⟩
abbrev S8x128 : Shape := ⟨2, ![8, 128]⟩
abbrev S4x1024 : Shape := ⟨2, ![4, 1024]⟩
abbrev S4x512 : Shape := ⟨2, ![4, 512]⟩
abbrev S8x512 : Shape := ⟨2, ![8, 512]⟩
abbrev S4x128x128 : Shape := ⟨3, ![4, 128, 128]⟩
abbrev S1x1792 : Shape := ⟨2, ![1, 1792]⟩
abbrev S128x1024 : Shape := ⟨2, ![128, 1024]⟩
abbrev S128x512 : Shape := ⟨2, ![128, 512]⟩
abbrev S4x64x7168 : Shape := ⟨3, ![4, 64, 7168]⟩
abbrev S4x64x2048 : Shape := ⟨3, ![4, 64, 2048]⟩
abbrev S4x72x1536 : Shape := ⟨3, ![4, 72, 1536]⟩
abbrev S4x4x128x128 : Shape := ⟨4, ![4, 4, 128, 128]⟩
abbrev S4x72x1024 : Shape := ⟨3, ![4, 72, 1024]⟩
abbrev S4x4x8x128 : Shape := ⟨4, ![4, 4, 8, 128]⟩
abbrev S4x72x512 : Shape := ⟨3, ![4, 72, 512]⟩
abbrev S4x8x512 : Shape := ⟨3, ![4, 8, 512]⟩
abbrev S4x72x1792 : Shape := ⟨3, ![4, 72, 1792]⟩
abbrev S4x8x1536 : Shape := ⟨3, ![4, 8, 1536]⟩
abbrev S4x8x1024 : Shape := ⟨3, ![4, 8, 1024]⟩
abbrev S4x8x1792 : Shape := ⟨3, ![4, 8, 1792]⟩
abbrev S256x2048 : Shape := ⟨2, ![256, 2048]⟩
abbrev S4x64x512 : Shape := ⟨3, ![4, 64, 512]⟩
abbrev S1x2048x512 : Shape := ⟨3, ![1, 2048, 512]⟩
abbrev S2048x512 : Shape := ⟨2, ![2048, 512]⟩
abbrev S256x512 : Shape := ⟨2, ![256, 512]⟩
abbrev S1x64x1792 : Shape := ⟨3, ![1, 64, 1792]⟩
abbrev S64x1792 : Shape := ⟨2, ![64, 1792]⟩
abbrev S8x1792 : Shape := ⟨2, ![8, 1792]⟩
abbrev S1x8x1792 : Shape := ⟨3, ![1, 8, 1792]⟩
abbrev S256x1792 : Shape := ⟨2, ![256, 1792]⟩
abbrev S1x64x1024 : Shape := ⟨3, ![1, 64, 1024]⟩
abbrev S64x1024 : Shape := ⟨2, ![64, 1024]⟩
abbrev S1x72x1024 : Shape := ⟨3, ![1, 72, 1024]⟩
abbrev S72x1024 : Shape := ⟨2, ![72, 1024]⟩
abbrev S1x1024 : Shape := ⟨2, ![1, 1024]⟩
abbrev S8x1024 : Shape := ⟨2, ![8, 1024]⟩
abbrev S256x1024 : Shape := ⟨2, ![256, 1024]⟩
abbrev S256x128 : Shape := ⟨2, ![256, 128]⟩
abbrev S4x64x128 : Shape := ⟨3, ![4, 64, 128]⟩
abbrev S1x128 : Shape := ⟨2, ![1, 128]⟩
abbrev S64x128 : Shape := ⟨2, ![64, 128]⟩
abbrev S128x64 : Shape := ⟨2, ![128, 64]⟩
abbrev S1x512 : Shape := ⟨2, ![1, 512]⟩
abbrev S64x64 : Shape := ⟨2, ![64, 64]⟩
abbrev S1x64x128 : Shape := ⟨3, ![1, 64, 128]⟩
abbrev S64x1 : Shape := ⟨2, ![64, 1]⟩
abbrev S1x64 : Shape := ⟨2, ![1, 64]⟩
abbrev S1x1x8x128 : Shape := ⟨4, ![1, 1, 8, 128]⟩
abbrev S1x1 : Shape := ⟨2, ![1, 1]⟩
abbrev S1x1x128x128 : Shape := ⟨4, ![1, 1, 128, 128]⟩
abbrev S128x128 : Shape := ⟨2, ![128, 128]⟩
abbrev S64x512 : Shape := ⟨2, ![64, 512]⟩
abbrev S64 : Shape := ⟨1, ![64]⟩
abbrev S256x256 : Shape := ⟨2, ![256, 256]⟩
abbrev S128x256 : Shape := ⟨2, ![128, 256]⟩
abbrev S1 : Shape := ⟨1, ![1]⟩
abbrev S128 : Shape := ⟨1, ![128]⟩
abbrev S1x64x1536 : Shape := ⟨3, ![1, 64, 1536]⟩
abbrev S64x1536 : Shape := ⟨2, ![64, 1536]⟩
abbrev S1x72x1536 : Shape := ⟨3, ![1, 72, 1536]⟩
abbrev S72x1536 : Shape := ⟨2, ![72, 1536]⟩
abbrev S1x1536 : Shape := ⟨2, ![1, 1536]⟩
abbrev S8x1536 : Shape := ⟨2, ![8, 1536]⟩
abbrev S256x1536 : Shape := ⟨2, ![256, 1536]⟩
abbrev S256 : Shape := ⟨1, ![256]⟩
abbrev S256x1 : Shape := ⟨2, ![256, 1]⟩
abbrev S64x256 : Shape := ⟨2, ![64, 256]⟩
abbrev S1x64x512 : Shape := ⟨3, ![1, 64, 512]⟩
abbrev S1x72x512 : Shape := ⟨3, ![1, 72, 512]⟩
abbrev S72x512 : Shape := ⟨2, ![72, 512]⟩
abbrev S1x128x128 : Shape := ⟨3, ![1, 128, 128]⟩
abbrev S1x8x512 : Shape := ⟨3, ![1, 8, 512]⟩

abbrev nBuf : Space → Nat
  | .hbm => 16
  | .vmem => 30
  | .smem => 0
  | _ => 0

abbrev bufTy : (tb : Table) → Fin (tcTables nBuf tb) → BufTy
  | .hbm, ⟨0, _⟩ => ⟨S4x4096x7168, .f32⟩
  | .hbm, ⟨1, _⟩ => ⟨S4x4096x2048, .f32⟩
  | .hbm, ⟨2, _⟩ => ⟨S1x2048x2048, .bf16⟩
  | .hbm, ⟨3, _⟩ => ⟨S4x1536, .f32⟩
  | .hbm, ⟨4, _⟩ => ⟨S8x128, .f32⟩
  | .hbm, ⟨5, _⟩ => ⟨S4x1024, .f32⟩
  | .hbm, ⟨6, _⟩ => ⟨S8x128, .f32⟩
  | .hbm, ⟨7, _⟩ => ⟨S4x512, .f32⟩
  | .hbm, ⟨8, _⟩ => ⟨S8x512, .f32⟩
  | .hbm, ⟨9, _⟩ => ⟨S4x128x128, .bf16⟩
  | .hbm, ⟨10, _⟩ => ⟨S4x128x128, .bf16⟩
  | .hbm, ⟨11, _⟩ => ⟨S1x1792, .f32⟩
  | .hbm, ⟨12, _⟩ => ⟨S8x512, .f32⟩
  | .hbm, ⟨13, _⟩ => ⟨S128x1024, .bf16⟩
  | .hbm, ⟨14, _⟩ => ⟨S128x512, .bf16⟩
  | .hbm, ⟨15, _⟩ => ⟨S4x4096x2048, .f32⟩
  | .local _ .vmem, ⟨0, _⟩ => ⟨S4x64x7168, .f32⟩
  | .local _ .vmem, ⟨1, _⟩ => ⟨S4x64x7168, .f32⟩
  | .local _ .vmem, ⟨2, _⟩ => ⟨S4x64x2048, .f32⟩
  | .local _ .vmem, ⟨3, _⟩ => ⟨S4x64x2048, .f32⟩
  | .local _ .vmem, ⟨4, _⟩ => ⟨S1x2048x2048, .bf16⟩
  | .local _ .vmem, ⟨5, _⟩ => ⟨S4x1536, .f32⟩
  | .local _ .vmem, ⟨6, _⟩ => ⟨S8x128, .f32⟩
  | .local _ .vmem, ⟨7, _⟩ => ⟨S4x1024, .f32⟩
  | .local _ .vmem, ⟨8, _⟩ => ⟨S8x128, .f32⟩
  | .local _ .vmem, ⟨9, _⟩ => ⟨S4x512, .f32⟩
  | .local _ .vmem, ⟨10, _⟩ => ⟨S8x512, .f32⟩
  | .local _ .vmem, ⟨11, _⟩ => ⟨S4x128x128, .bf16⟩
  | .local _ .vmem, ⟨12, _⟩ => ⟨S4x128x128, .bf16⟩
  | .local _ .vmem, ⟨13, _⟩ => ⟨S1x1792, .f32⟩
  | .local _ .vmem, ⟨14, _⟩ => ⟨S8x512, .f32⟩
  | .local _ .vmem, ⟨15, _⟩ => ⟨S128x1024, .bf16⟩
  | .local _ .vmem, ⟨16, _⟩ => ⟨S128x512, .bf16⟩
  | .local _ .vmem, ⟨17, _⟩ => ⟨S4x64x2048, .f32⟩
  | .local _ .vmem, ⟨18, _⟩ => ⟨S4x64x2048, .f32⟩
  | .local _ .vmem, ⟨19, _⟩ => ⟨S4x64x2048, .bf16⟩
  | .local _ .vmem, ⟨20, _⟩ => ⟨S4x72x1536, .f32⟩
  | .local _ .vmem, ⟨21, _⟩ => ⟨S4x4x128x128, .f32⟩
  | .local _ .vmem, ⟨22, _⟩ => ⟨S4x72x1024, .f32⟩
  | .local _ .vmem, ⟨23, _⟩ => ⟨S4x4x128x128, .f32⟩
  | .local _ .vmem, ⟨24, _⟩ => ⟨S4x4x8x128, .f32⟩
  | .local _ .vmem, ⟨25, _⟩ => ⟨S4x4x8x128, .f32⟩
  | .local _ .vmem, ⟨26, _⟩ => ⟨S4x72x512, .f32⟩
  | .local _ .vmem, ⟨27, _⟩ => ⟨S4x8x512, .f32⟩
  | .local _ .vmem, ⟨28, _⟩ => ⟨S4x72x1792, .f32⟩
  | .local _ .vmem, ⟨29, _⟩ => ⟨S4x4x128x128, .f32⟩
  | _, _ => ⟨S4x4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S4x64x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1792 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4x64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Ffn.lean ====
abbrev S16384x2048 : Shape := ⟨2, ![16384, 2048]⟩
abbrev S2048 : Shape := ⟨1, ![2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 9
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x5632, .bf16⟩
  | .hbm, ⟨3, _⟩ => ⟨S1x2048x5632, .bf16⟩
  | .hbm, ⟨4, _⟩ => ⟨S1x5632x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S2048 : Shape := ⟨1, ![2048]⟩
abbrev S1x2048x5632 : Shape := ⟨3, ![1, 2048, 5632]⟩
abbrev S1x5632x2048 : Shape := ⟨3, ![1, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x5632 : Shape := ⟨2, ![2048, 5632]⟩
abbrev S16384x5632 : Shape := ⟨2, ![16384, 5632]⟩
abbrev S5632x2048 : Shape := ⟨2, ![5632, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x5632, .bf16⟩
  | .hbm, ⟨3, _⟩ => ⟨S1x2048x5632, .bf16⟩
  | .hbm, ⟨4, _⟩ => ⟨S1x5632x2048, .bf16⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x5632, .bf16⟩
  | .hbm, ⟨23, _⟩ => ⟨S2048x5632, .f32⟩
  | .hbm, ⟨24, _⟩ => ⟨S16384x5632, .f32⟩
  | .hbm, ⟨25, _⟩ => ⟨S2048x5632, .bf16⟩
  | .hbm, ⟨26, _⟩ => ⟨S2048x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S_, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S5632x2048, .bf16⟩
  | .hbm, ⟨39, _⟩ => ⟨S5632x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x2048, .f32⟩
  | .hbm, ⟨54, _⟩ => ⟨S16384x2048, .f32⟩
  | .hbm, ⟨55, _⟩ => ⟨S1x2048, .f32⟩
  | .hbm, ⟨56, _⟩ => ⟨S16384x2048, .f32⟩
  | .hbm, ⟨57, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== FfnMid.lean ====
abbrev S16384x2048 : Shape := ⟨2, ![16384, 2048]⟩
abbrev S2048 : Shape := ⟨1, ![2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 9
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x5632, .bf16⟩
  | .hbm, ⟨3, _⟩ => ⟨S1x2048x5632, .bf16⟩
  | .hbm, ⟨4, _⟩ => ⟨S1x5632x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnMidRefIdeal.lean ====
abbrev S16384x2048 : Shape := ⟨2, ![16384, 2048]⟩
abbrev S2048 : Shape := ⟨1, ![2048]⟩
abbrev S1x2048x5632 : Shape := ⟨3, ![1, 2048, 5632]⟩
abbrev S1x5632x2048 : Shape := ⟨3, ![1, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x5632 : Shape := ⟨2, ![2048, 5632]⟩
abbrev S16384x5632 : Shape := ⟨2, ![16384, 5632]⟩
abbrev S5632x2048 : Shape := ⟨2, ![5632, 2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x5632, .bf16⟩
  | .hbm, ⟨3, _⟩ => ⟨S1x2048x5632, .bf16⟩
  | .hbm, ⟨4, _⟩ => ⟨S1x5632x2048, .bf16⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S2048x5632, .bf16⟩
  | .hbm, ⟨23, _⟩ => ⟨S2048x5632, .f32⟩
  | .hbm, ⟨24, _⟩ => ⟨S16384x5632, .f32⟩
  | .hbm, ⟨25, _⟩ => ⟨S2048x5632, .bf16⟩
  | .hbm, ⟨26, _⟩ => ⟨S2048x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S_, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S5632x2048, .bf16⟩
  | .hbm, ⟨39, _⟩ => ⟨S5632x2048, .f32⟩
  | .hbm, ⟨40, _⟩ => ⟨S16384x2048, .f32⟩
  | .hbm, ⟨41, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Inproj.lean ====
abbrev S16384x2048 : Shape := ⟨2, ![16384, 2048]⟩
abbrev S2048 : Shape := ⟨1, ![2048]⟩
abbrev S1x7168x2048 : Shape := ⟨3, ![1, 7168, 2048]⟩
abbrev S1x2048x2048 : Shape := ⟨3, ![1, 2048, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S16384x7168 : Shape := ⟨2, ![16384, 7168]⟩
abbrev S1024x2048 : Shape := ⟨2, ![1024, 2048]⟩
abbrev S1x1792x2048 : Shape := ⟨3, ![1, 1792, 2048]⟩
abbrev S1x32x2048 : Shape := ⟨3, ![1, 32, 2048]⟩
abbrev S1x32x5632 : Shape := ⟨3, ![1, 32, 5632]⟩
abbrev S1x128x2048 : Shape := ⟨3, ![1, 128, 2048]⟩
abbrev S1024x1792 : Shape := ⟨2, ![1024, 1792]⟩
abbrev S1024 : Shape := ⟨1, ![1024]⟩
abbrev S1024x1 : Shape := ⟨2, ![1024, 1]⟩
abbrev S1792x2048 : Shape := ⟨2, ![1792, 2048]⟩
abbrev S32x2048 : Shape := ⟨2, ![32, 2048]⟩
abbrev S32x5632 : Shape := ⟨2, ![32, 5632]⟩
abbrev S128x2048 : Shape := ⟨2, ![128, 2048]⟩

abbrev nBuf : Space → Nat
  | .hbm => 13
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x7168x2048, .bf16⟩
  | .hbm, ⟨3, _⟩ => ⟨S1x2048x2048, .f32⟩
  | .hbm, ⟨4, _⟩ => ⟨S1x2048x5632, .f32⟩
  | .hbm, ⟨5, _⟩ => ⟨S1x2048x5632, .f32⟩
  | .hbm, ⟨6, _⟩ => ⟨S1x5632x2048, .f32⟩
  | .hbm, ⟨7, _⟩ => ⟨S1x2048, .f32⟩
  | .hbm, ⟨8, _⟩ => ⟨S16384x7168, .f32⟩
  | .hbm, ⟨9, _⟩ => ⟨S1x2048x2048, .bf16⟩
  | .hbm, ⟨10, _⟩ => ⟨S1x2048x5632, .bf16⟩
  | .hbm, ⟨11, _⟩ => ⟨S1x2048x5632, .bf16⟩
  | .hbm, ⟨12, _⟩ => ⟨S1x5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1792x2048, .bf16⟩
  | .local _ .vmem, ⟨4, _⟩ => ⟨S1x1792x2048, .bf16⟩
  | .local _ .vmem, ⟨5, _⟩ => ⟨S1x32x2048, .f32⟩
  | .local _ .vmem, ⟨6, _⟩ => ⟨S1x32x2048, .f32⟩
  | .local _ .vmem, ⟨7, _⟩ => ⟨S1x32x5632, .f32⟩
  | .local _ .vmem, ⟨8, _⟩ => ⟨S1x32x5632, .f32⟩
  | .local _ .vmem, ⟨9, _⟩ => ⟨S1x32x5632, .f32⟩
  | .local _ .vmem, ⟨10, _⟩ => ⟨S1x32x5632, .f32⟩
  | .local _ .vmem, ⟨11, _⟩ => ⟨S1x128x2048, .f32⟩
  | .local _ .vmem, ⟨12, _⟩ => ⟨S1x128x2048, .f32⟩
  | .local _ .vmem, ⟨13, _⟩ => ⟨S1024x1792, .f32⟩
  | .local _ .vmem, ⟨14, _⟩ => ⟨S1024x1792, .f32⟩
  | .local _ .vmem, ⟨15, _⟩ => ⟨S1x32x2048, .bf16⟩
  | .local _ .vmem, ⟨16, _⟩ => ⟨S1x32x2048, .bf16⟩
  | .local _ .vmem, ⟨17, _⟩ => ⟨S1x32x5632, .bf16⟩
  | .local _ .vmem, ⟨18, _⟩ => ⟨S1x32x5632, .bf16⟩
  | .local _ .vmem, ⟨19, _⟩ => ⟨S1x32x5632, .bf16⟩
  | .local _ .vmem, ⟨20, _⟩ => ⟨S1x32x5632, .bf16⟩
  | .local _ .vmem, ⟨21, _⟩ => ⟨S1x128x2048, .bf16⟩
  | .local _ .vmem, ⟨22, _⟩ => ⟨S1x128x2048, .bf16⟩
  | .local _ .vmem, ⟨23, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  let c0_i32_1 : BitVec 32 := 0#32
  ![c0_i32.toNat, v2.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![c0_i32.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1792x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InprojRefIdeal.lean ====
abbrev S16384x2048 : Shape := ⟨2, ![16384, 2048]⟩
abbrev S2048 : Shape := ⟨1, ![2048]⟩
abbrev S1x7168x2048 : Shape := ⟨3, ![1, 7168, 2048]⟩
abbrev S1x2048x2048 : Shape := ⟨3, ![1, 2048, 2048]⟩
abbrev S1x2048x5632 : Shape := ⟨3, ![1, 2048, 5632]⟩
abbrev S1x5632x2048 : Shape := ⟨3, ![1, 5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S7168x2048 : Shape := ⟨2, ![7168, 2048]⟩
abbrev S2048x7168 : Shape := ⟨2, ![2048, 7168]⟩
abbrev S16384x7168 : Shape := ⟨2, ![16384, 7168]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x7168x2048, .bf16⟩
  | .hbm, ⟨3, _⟩ => ⟨S1x2048x2048, .f32⟩
  | .hbm, ⟨4, _⟩ => ⟨S1x2048x5632, .f32⟩
  | .hbm, ⟨5, _⟩ => ⟨S1x2048x5632, .f32⟩
  | .hbm, ⟨6, _⟩ => ⟨S1x5632x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S7168x2048, .bf16⟩
  | .hbm, ⟨24, _⟩ => ⟨S7168x2048, .f32⟩
  | .hbm, ⟨25, _⟩ => ⟨S2048x7168, .f32⟩
  | .hbm, ⟨26, _⟩ => ⟨S16384x7168, .f32⟩
  | .hbm, ⟨27, _⟩ => ⟨S1x2048x2048, .bf16⟩
  | .hbm, ⟨28, _⟩ => ⟨S1x2048x5632, .bf16⟩
  | .hbm, ⟨29, _⟩ => ⟨S1x2048x5632, .bf16⟩
  | .hbm, ⟨30, _⟩ => ⟨S1x5632x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Safe.lean ====
/-
  Programs that only load, store and branch, run over buffers whose contents nobody reads.

  The frame of a long kernel body needs one fact of each of its loads and stores: that the buffer it goes to is held.
  `held c L` says that every location of the list `L` is held whole at some contents, and `Safe … p` says that the
  program `p`, started from `held c L`, runs to its end and gives `held c L` back. The lemmas below say that a load
  and a store of a memref into `L` are safe, and that sequencing, branching and returning keep safety, so the body of
  a kernel is taken through one operation at a time, whatever it computes. `Within c L p` says the same of the text of
  `p` alone, that all its loads and stores are into `L`; a program within `L` is safe (`Within.safe`).
-/
module

public import Idealize.ShloMosaic.Lib.Pipeline
public import Idealize.ShloMosaic.Lib.Pipeline.Kit
public import Idealize.ShloMosaic.Lib.Tactic

@[expose] public section

noncomputable section

namespace Cert.Proof

open Idealize.ShloMosaic
open Idealize.SL Idealize.SL.RA Idealize.SL.Sem Idealize.SL.ProofMode
open Idealize.SL.BI
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U] {Lvl : Type} [Preorder Lvl] {Λ : Labels}
local notation "𝕄" => MT nD τ sig Ix Val Name U Lvl

/-- Every location of `L` held whole, each at some contents. -/
def held : List (Loc nD τ sig) → sProp 𝕄
  | [] => BI.emp
  | ℓ :: L => iprop((∃ f : Buf Val ℓ, ℓ ↦{fullShare} f) ∗ held L)

/-- A held location can be taken out and, at whatever contents, put back. -/
theorem held_take {L : List (Loc nD τ sig)} {ℓ : Loc nD τ sig} (h : ℓ ∈ L) :
    (held L : sProp 𝕄) ⊢ iprop((∃ f : Buf Val ℓ, ℓ ↦{fullShare} f) ∗ ((∃ f : Buf Val ℓ, ℓ ↦{fullShare} f) -∗ held L)) := by
  induction L with
  | nil => exact absurd h List.not_mem_nil
  | cons ℓ' L ih =>
    rcases List.mem_cons.mp h with rfl | h
    · unfold held
      iintro ⟨H, HL⟩
      isplitl [H]; · iexact H
      iintro H
      isplitl [H]; · iexact H
      iexact HL
    · unfold held
      refine (sep_mono_right (ih h)).trans ?_
      iintro ⟨H', H, Hw⟩
      isplitl [H]; · iexact H
      iintro H
      isplitl [H']; · iexact H'
      iapply Hw; iexact H

/-- Two lists held are their concatenation held. -/
theorem held_append (L L' : List (Loc nD τ sig)) : (held (L ++ L') : sProp 𝕄) ⊣⊢ iprop(held L ∗ held L') := by
  induction L with
  | nil => exact ⟨BIClass.emp_sep.2, BIClass.emp_sep.1⟩
  | cons ℓ L ih =>
    refine ⟨?_, ?_⟩
    · refine BI.BIBase.Entails.trans (BIClass.sep_mono .rfl ih.1) ?_
      show _ ⊢ iprop(((∃ f : Buf Val ℓ, ℓ ↦{fullShare} f) ∗ held L) ∗ held L')
      iintro ⟨H, HL, HL'⟩
      isplitl [H HL]
      · isplitl [H]; · iexact H
        iexact HL
      · iexact HL'
    · refine BI.BIBase.Entails.trans ?_ (BIClass.sep_mono .rfl ih.2)
      show iprop(((∃ f : Buf Val ℓ, ℓ ↦{fullShare} f) ∗ held L) ∗ held L') ⊢ _
      iintro ⟨⟨H, HL⟩, HL'⟩
      isplitl [H]; · iexact H
      isplitl [HL]; · iexact HL
      iexact HL'

/-- A chain whose members each hold a location is the list of those locations held. -/
theorem held_of_chain {I : Type} (l : List I) (loc : I → Loc nD τ sig) (Φ : I → sProp 𝕄)
    (h : ∀ i, Φ i ⊢ iprop(∃ f : Buf Val (loc i), loc i ↦{fullShare} f)) : bigSepL l Φ ⊢ held (l.map loc) := by
  induction l with
  | nil => exact .rfl
  | cons i l ih =>
    rw [bigSepL_cons]
    exact BIClass.sep_mono (h i) ih

/-- And back. -/
theorem chain_of_held {I : Type} (l : List I) (loc : I → Loc nD τ sig) (Φ : I → sProp 𝕄)
    (h : ∀ i, iprop(∃ f : Buf Val (loc i), loc i ↦{fullShare} f) ⊢ Φ i) : held (l.map loc) ⊢ bigSepL l Φ := by
  induction l with
  | nil => exact .rfl
  | cons i l ih =>
    rw [bigSepL_cons]
    exact BIClass.sep_mono (h i) ih

/-- `p` runs to its end from `held L`, and gives it back. -/
def Safe (defs : Defs nD τ sig Val Λ) (𝒱 : Variants) (c : Thread nD τ) (L : List (Loc nD τ sig)) {α : Type}
    (p : Prog (TpuEff nD τ sig Val Λ c.2) α) : Prop :=
  (held L : sProp 𝕄) ⊢ wp frame (wpE defs 𝒱 c none) Set.univ p fun _ => (held L : sProp 𝕄)

namespace Safe

variable {defs : Defs nD τ sig Val Λ} {𝒱 : Variants} {c : Thread nD τ} {L : List (Loc nD τ sig)} {α β : Type}

/-- Returning is safe. -/
theorem ret (a : α) : Safe (Ix := Ix) (Name := Name) (U := U) (Lvl := Lvl) defs 𝒱 c L (pure a) := by
  exact le_wp_ret frame (wpE defs 𝒱 c none) Set.univ a fun _ => held L

/-- One safe program after another is safe. -/
theorem bind {p : Prog (TpuEff nD τ sig Val Λ c.2) α} {k : α → Prog (TpuEff nD τ sig Val Λ c.2) β}
    (hp : Safe (Ix := Ix) (Name := Name) (U := U) (Lvl := Lvl) defs 𝒱 c L p)
    (hk : ∀ a, Safe (Ix := Ix) (Name := Name) (U := U) (Lvl := Lvl) defs 𝒱 c L (k a)) :
    Safe (Ix := Ix) (Name := Name) (U := U) (Lvl := Lvl) defs 𝒱 c L (p >>= k) := by
  unfold Safe at *
  rw [wp_bind]
  exact hp.trans (wp_mono _ _ _ hk)

/-- A branch of which both sides are safe is safe. -/
theorem branch {P : Prop} [Decidable P] {p : P → Prog (TpuEff nD τ sig Val Λ c.2) α} {q : ¬P → Prog (TpuEff nD τ sig Val Λ c.2) α}
    (hp : ∀ h, Safe (Ix := Ix) (Name := Name) (U := U) (Lvl := Lvl) defs 𝒱 c L (p h))
    (hq : ∀ h, Safe (Ix := Ix) (Name := Name) (U := U) (Lvl := Lvl) defs 𝒱 c L (q h)) :
    Safe (Ix := Ix) (Name := Name) (U := U) (Lvl := Lvl) defs 𝒱 c L (dite P p q) := by
  split
  · exact hp _
  · exact hq _

/-- A load through a memref into a held buffer is safe, whatever it reads. -/
theorem load {sp : CoreSpace} {s : Shape} {e : EltTy} {m : Memref sig c.2.kind sp s e} {r : LoadRect s} {hl : m.view.LoadsAt r}
    (hm : m.view.loc c ∈ L) :
    Safe (Ix := Ix) (Name := Name) (U := U) (Lvl := Lvl) defs 𝒱 c L (Prog.lift (.load m r hl)) := by
  unfold Safe
  refine (held_take hm).trans ?_
  iintro ⟨⟨%f, H⟩, Hw⟩
  iapply (wp_load 𝒱 c none Set.univ (m := m) (r := r) (hl := hl) (f := f) (Finset.subset_univ _)) $$ H
  iintro H
  iapply (le_wp_ret _ _ _ _ _)
  iapply Hw
  iexists f; iexact H

/-- A store through a memref into a held buffer is safe, whatever it writes. -/
theorem store {sp : CoreSpace} {s : Shape} {e : EltTy} {m : Memref sig c.2.kind sp s e} {r : Rect s} {w : r.shape.Idx → Val e}
    {Mk : Finset r.shape.Idx} {hx : (m.access r).Stores Mk} {hs : Mk = Finset.univ ∨ ∀ a, r.stride a = 1}
    (hm : m.view.loc c ∈ L) :
    Safe (Ix := Ix) (Name := Name) (U := U) (Lvl := Lvl) defs 𝒱 c L (Prog.lift (.store m r w Mk hx hs)) := by
  unfold Safe
  refine (held_take hm).trans ?_
  iintro ⟨⟨%f, H⟩, Hw⟩
  iapply (wp_store 𝒱 c none Set.univ (m := m) (r := r) (w := w) (Mk := Mk) (hx := hx) (hm := hs) (f := f) (Finset.subset_univ _)) $$ H
  iintro H
  iapply (le_wp_ret _ _ _ _ _)
  iapply Hw
  iexists _; iexact H

end Safe

/-- `p` is made of loads and stores of memrefs into `L`, sequencing and returns. -/
inductive Within (c : Thread nD τ) (L : List (Loc nD τ sig)) : {α : Type} → Prog (TpuEff nD τ sig Val Λ c.2) α → Prop
  | ret {α : Type} (a : α) : Within c L (pure a)
  | bind {α β : Type} {p : Prog (TpuEff nD τ sig Val Λ c.2) α} {k : α → Prog (TpuEff nD τ sig Val Λ c.2) β}
      (hp : Within c L p) (hk : ∀ a, Within c L (k a)) : Within c L (p >>= k)
  | load {sp : CoreSpace} {s : Shape} {e : EltTy} {m : Memref sig c.2.kind sp s e} {r : LoadRect s} {hl : m.view.LoadsAt r}
      (hm : m.view.loc c ∈ L) : Within c L (Prog.lift (.load m r hl))
  | store {sp : CoreSpace} {s : Shape} {e : EltTy} {m : Memref sig c.2.kind sp s e} {r : Rect s} {w : r.shape.Idx → Val e}
      {Mk : Finset r.shape.Idx} {hx : (m.access r).Stores Mk} {hs : Mk = Finset.univ ∨ ∀ a, r.stride a = 1}
      (hm : m.view.loc c ∈ L) : Within c L (Prog.lift (.store m r w Mk hx hs))

namespace Within

variable {c : Thread nD τ} {L : List (Loc nD τ sig)} {α : Type}

/-- A branch of which both sides are within `L` is within `L`. -/
theorem branch {P : Prop} [Decidable P] {p : P → Prog (TpuEff nD τ sig Val Λ c.2) α} {q : ¬P → Prog (TpuEff nD τ sig Val Λ c.2) α}
    (hp : ∀ h, Within c L (p h)) (hq : ∀ h, Within c L (q h)) : Within c L (dite P p q) := by
  split
  · exact hp _
  · exact hq _

/-- A program within `L` is safe. -/
theorem safe {p : Prog (TpuEff nD τ sig Val Λ c.2) α} (h : Within c L p) (defs : Defs nD τ sig Val Λ) (𝒱 : Variants) :
    Safe (Ix := Ix) (Name := Name) (U := U) (Lvl := Lvl) defs 𝒱 c L p := by
  induction h with
  | ret a => exact Safe.ret a
  | bind _ _ hp hk => exact Safe.bind hp hk
  | load hm => exact Safe.load hm
  | store hm => exact Safe.store hm

end Within

end Cert.Proof

end
-- ==== Proof.MixersBody.lean ====
/- The mixers body loads and stores in the buffers it is given and nowhere else. Each of its three conditionals is followed
   by the rest of the body; that rest is named and proved first, once, so that the branches meet it as one step. -/
module

public import proofs.«01_k».proof.Kernel
public import proofs.«01_k».proof.Proof.Safe

@[expose] public section

noncomputable section

namespace Cert.Proof.Mixers

open Idealize.ShloMosaic Idealize.ShloMosaic.TcCoe Idealize.SL Idealize.SL.Sem
open Cert.Kernel

variable {F : FTy → Type} [FloatOps F] [Facts]

set_option maxHeartbeats 0 in
set_option maxRecDepth 100000 in
theorem within (c : Dev nD) (L : List (Loc nD τ sig)) (i : grid0.Coords) (arg1 : Memref sig .tc .vmem S4x64x7168 .f32) (harg1 : arg1.IsWhole) (arg2 : Memref sig .tc .vmem S4x64x2048 .f32) (harg2 : arg2.IsWhole) (arg3 : Memref sig .tc .vmem S1x2048x2048 .bf16) (harg3 : arg3.IsWhole) (arg4 : Memref sig .tc .vmem S4x1536 .f32) (harg4 : arg4.IsWhole) (arg5 : Memref sig .tc .vmem S8x128 .f32) (harg5 : arg5.IsWhole) (arg6 : Memref sig .tc .vmem S4x1024 .f32) (harg6 : arg6.IsWhole) (arg7 : Memref sig .tc .vmem S8x128 .f32) (harg7 : arg7.IsWhole) (arg8 : Memref sig .tc .vmem S4x512 .f32) (harg8 : arg8.IsWhole) (arg9 : Memref sig .tc .vmem S8x512 .f32) (harg9 : arg9.IsWhole) (arg10 : Memref sig .tc .vmem S4x128x128 .bf16) (harg10 : arg10.IsWhole) (arg11 : Memref sig .tc .vmem S4x128x128 .bf16) (harg11 : arg11.IsWhole) (arg12 : Memref sig .tc .vmem S1x1792 .f32) (harg12 : arg12.IsWhole) (arg13 : Memref sig .tc .vmem S8x512 .f32) (harg13 : arg13.IsWhole) (arg14 : Memref sig .tc .vmem S128x1024 .bf16) (harg14 : arg14.IsWhole) (arg15 : Memref sig .tc .vmem S128x512 .bf16) (harg15 : arg15.IsWhole) (arg16 : Memref sig .tc .vmem S4x64x2048 .f32) (harg16 : arg16.IsWhole) (arg17 : Memref sig .tc .vmem S4x64x2048 .bf16) (harg17 : arg17.IsWhole) (arg18 : Memref sig .tc .vmem S4x72x1536 .f32) (harg18 : arg18.IsWhole) (arg19 : Memref sig .tc .vmem S4x4x128x128 .f32) (harg19 : arg19.IsWhole) (arg20 : Memref sig .tc .vmem S4x72x1024 .f32) (harg20 : arg20.IsWhole) (arg21 : Memref sig .tc .vmem S4x4x128x128 .f32) (harg21 : arg21.IsWhole) (arg22 : Memref sig .tc .vmem S4x4x8x128 .f32) (harg22 : arg22.IsWhole) (arg23 : Memref sig .tc .vmem S4x4x8x128 .f32) (harg23 : arg23.IsWhole) (arg24 : Memref sig .tc .vmem S4x72x512 .f32) (harg24 : arg24.IsWhole) (arg25 : Memref sig .tc .vmem S4x8x512 .f32) (harg25 : arg25.IsWhole) (arg26 : Memref sig .tc .vmem S4x72x1792 .f32) (harg26 : arg26.IsWhole) (arg27 : Memref sig .tc .vmem S4x4x128x128 .f32) (harg27 : arg27.IsWhole)
    (h1 : arg1.view.loc c ∈ L) (h2 : arg2.view.loc c ∈ L) (h3 : arg3.view.loc c ∈ L) (h4 : arg4.view.loc c ∈ L) (h5 : arg5.view.loc c ∈ L) (h6 : arg6.view.loc c ∈ L) (h7 : arg7.view.loc c ∈ L) (h8 : arg8.view.loc c ∈ L) (h9 : arg9.view.loc c ∈ L) (h10 : arg10.view.loc c ∈ L) (h11 : arg11.view.loc c ∈ L) (h12 : arg12.view.loc c ∈ L) (h13 : arg13.view.loc c ∈ L) (h14 : arg14.view.loc c ∈ L) (h15 : arg15.view.loc c ∈ L) (h16 : arg16.view.loc c ∈ L) (h17 : arg17.view.loc c ∈ L) (h18 : arg18.view.loc c ∈ L) (h19 : arg19.view.loc c ∈ L) (h20 : arg20.view.loc c ∈ L) (h21 : arg21.view.loc c ∈ L) (h22 : arg22.view.loc c ∈ L) (h23 : arg23.view.loc c ∈ L) (h24 : arg24.view.loc c ∈ L) (h25 : arg25.view.loc c ∈ L) (h26 : arg26.view.loc c ∈ L) (h27 : arg27.view.loc c ∈ L) :
    Within (Val := Elt F) (Λ := Λ₀) (c : Thread nD τ) L (cc0_mixers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) := by
  delta cc0_mixers
  extract_lets +onlyGivenNames -merge -underBinder arg0 c0_i32 v0 v1 c0_i32_0 v2 after1
  have hafter1 : ∀ y, Within (Val := Elt F) (Λ := Λ₀) (c : Thread nD τ) L (after1 y) := by
    intro y
    subst after1
    beta_reduce
    extract_lets +onlyGivenNames -merge -underBinder c64_i32 v3 v4 c0_i32_2 v5 after2
    have hafter2 : ∀ y, Within (Val := Elt F) (Λ := Λ₀) (c : Thread nD τ) L (after2 y) := by
      intro y
      subst after2
      beta_reduce
      repeat' first
        | with_reducible exact Within.ret _
        | with_reducible exact Within.load (by with_reducible assumption)
        | with_reducible exact Within.store (by with_reducible assumption)
        | with_reducible refine Within.bind ?_ fun _ => ?_
        | with_reducible refine Within.branch (fun _ => ?_) (fun _ => ?_)
        | exact Within.load (by assumption)
        | exact Within.store (by assumption)
        | refine Within.bind ?_ fun _ => ?_
        | exact Within.ret _
    clear_value after2
    repeat' first
      | with_reducible exact hafter2 _
      | with_reducible exact Within.ret _
      | with_reducible exact Within.load (by with_reducible assumption)
      | with_reducible exact Within.store (by with_reducible assumption)
      | with_reducible refine Within.bind ?_ fun _ => ?_
      | with_reducible refine Within.branch (fun _ => ?_) (fun _ => ?_)
      | exact Within.load (by assumption)
      | exact Within.store (by assumption)
      | refine Within.bind ?_ fun _ => ?_
      | exact Within.ret _
  clear_value after1
  repeat' first
    | with_reducible exact hafter1 _
    | with_reducible exact Within.ret _
    | with_reducible exact Within.load (by with_reducible assumption)
    | with_reducible exact Within.store (by with_reducible assumption)
    | with_reducible refine Within.bind ?_ fun _ => ?_
    | with_reducible refine Within.branch (fun _ => ?_) (fun _ => ?_)
    | exact Within.load (by assumption)
    | exact Within.store (by assumption)
    | refine Within.bind ?_ fun _ => ?_
    | exact Within.ret _

end Cert.Proof.Mixers
-- ==== Proof.AnyFrame.lean ====
/-
  The frame of a pipelined kernel whose body's loads and stores are all into its own buffers, whatever it computes.

  A frame claim says nothing of the results, so the proof data here names no contents: the body may leave anything in any
  staging buffer, and its scratch buffers hold something from point to point. The one obligation is that the body runs from
  the current staging buffers and the scratch buffers and gives them back; `body_any` has it from `Within`, which reads the
  body's text alone.
-/
module

public import proofs.«01_k».proof.Proof.Safe
public import Idealize.ShloMosaic.Lib.Pipeline.Frame

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg)

variable {nD : Nat} {τ : Topo} {sig : RefSig} {Val : EltTy → Type} {Λ : Labels}

local notation "𝕄" => MT nD τ sig Unit Val ℕ (UR sig nD τ) ℕ

variable (cfg : Cfg sig Λ)

/-! ## The buffers a body runs on -/

/-- Where window `w`'s current staging buffer lies at point `t`. -/
abbrev stageLoc (c : Dev nD) (t : Fin cfg.N) (w : Fin cfg.W) : Loc nD τ sig :=
  ((cfg.win w).stage (cfg.slots t w)).view.loc (c : Thread nD τ)

/-- Everything the body runs on at point `t`: the current staging buffers and the scratch buffers. -/
abbrev buffers (scratch : List (Ref sig .tc)) (c : Dev nD) (t : Fin cfg.N) : List (Loc nD τ sig) :=
  (List.finRange cfg.W).map (stageLoc cfg c t) ++ scratch.map fun b => (c : Thread nD τ).loc b

variable {scratch : List (Ref sig .tc)}

theorem stage_mem (c : Dev nD) (t : Fin cfg.N) (w : Fin cfg.W) : stageLoc (τ := τ) cfg c t w ∈ buffers cfg scratch c t :=
  List.mem_append_left _ (List.mem_map.mpr ⟨w, List.mem_finRange w, rfl⟩)

theorem scratch_mem (c : Dev nD) (t : Fin cfg.N) {b : Ref sig .tc} (h : b ∈ scratch) :
    (c : Thread nD τ).loc b ∈ buffers cfg scratch c t :=
  List.mem_append_right _ (List.mem_map.mpr ⟨b, h, rfl⟩)

/-! ## The proof data and the body's obligation -/

/-- The proof data: the arrays as launched (`V`), nothing said of what the body leaves. -/
def anyData (c : Dev nD) (V : (b : Ref sig .tc) → Buf Val ((c : Thread nD τ).loc b)) : RDat τ Val Unit ℕ (UR sig nD τ) ℕ cfg c where
  A w := V (Pipeline.arrRef cfg.spec w)
  after _ _ _ _ := True
  Φ _ := Pipeline.ΦA cfg.spec c
  q _ := fullShare
  owed _ := 0

variable {cfg}

/-- A whole staging buffer owned is its location held. -/
theorem stage_held (hw : ∀ w s, ((cfg.win w).stage s).IsWhole) (c : Dev nD) (t : Fin cfg.N) (w : Fin cfg.W)
    (X : (cfg.win w).block.Idx → Val (cfg.win w).elt) :
    (owns (c : Thread nD τ) ((cfg.win w).stage (cfg.slots t w)) fullShare X : sProp 𝕄)
      ⊢ iprop(∃ f : Buf Val (stageLoc (τ := τ) cfg c t w), stageLoc cfg c t w ↦{fullShare} f) := by
  have hs := (hw w (cfg.slots t w)).set_eq_univ
  unfold owns
  rw [hs]
  iintro ⟨%f, -, H⟩
  iexists f; iexact H

/-- And back, at whatever contents. -/
theorem held_stage (hw : ∀ w s, ((cfg.win w).stage s).IsWhole) (c : Dev nD) (t : Fin cfg.N) (w : Fin cfg.W) :
    iprop(∃ f : Buf Val (stageLoc (τ := τ) cfg c t w), stageLoc cfg c t w ↦{fullShare} f)
      ⊢ (iprop(∃ X, ⌜True⌝ ∗ owns (c : Thread nD τ) ((cfg.win w).stage (cfg.slots t w)) fullShare X) : sProp 𝕄) := by
  have hs := (hw w (cfg.slots t w)).set_eq_univ
  iintro ⟨%f, H⟩
  iexists ((cfg.win w).stage (cfg.slots t w)).view.read Val f
  isplitr; · ipureintro; trivial
  unfold owns
  rw [hs]
  iexists f
  isplitr; · ipureintro; rfl
  iexact H

/-- The windows conjoined are a chain over their list. -/
theorem windows_chain {W : ℕ} (Φ : Fin W → sProp 𝕄) : bigSep Finset.univ Φ = bigSepL (List.finRange W) Φ :=
  bigSep_univ_eq_bigSepL (List.finRange W) (List.toFinset_finRange W).symm (List.nodup_finRange W) Φ

/-- The body obligation, for a body within its buffers: `scratch` lists the region's scratch buffers. -/
theorem body_any (defs : Defs nD τ sig Val Λ) (c : Dev nD) (V : (b : Ref sig .tc) → Buf Val ((c : Thread nD τ).loc b))
    (hw : ∀ w s, ((cfg.win w).stage s).IsWhole)
    (hs : (Finset.univ.filter fun b : Ref sig .tc => b.isScoped) \ Finset.univ.image (Pipeline.stageRef cfg.spec) = scratch.toFinset)
    (hn : scratch.Nodup)
    (h : ∀ t, Within (c : Thread nD τ) (buffers cfg scratch c t) (defs .tc cfg.body (cfg.bodyArgs t (cfg.slots t)))) :
    (anyData cfg c V).BodyObligation defs Variants.none () Set.univ := by
  intro t Y _
  have e := Pipeline.scopedRest_eq_of_list (Ix := Unit) (Name := ℕ) (U := UR sig nD τ) (Lvl := ℕ) (Val := Val) (τ := τ)
    cfg.spec c scratch hs hn
  rw [windows_chain]
  refine BI.BIBase.Entails.trans
    (Q := iprop(((∃ r, prngReg c r) ∗ (anyData cfg c V).owesAt () t.castSucc) ∗ held (buffers cfg scratch c t))) ?_ ?_
  · show iprop(Pipeline.ΦA cfg.spec c ∗ _ ∗ _) ⊢ _
    unfold Pipeline.ΦA
    rw [e]
    iintro ⟨⟨HS, HR⟩, HO, HW⟩
    isplitl [HR HO]
    · isplitl [HR]; · iexact HR
      iexact HO
    · iapply (held_append _ _).2
      isplitl [HW]
      · iapply (held_of_chain (List.finRange cfg.W) (stageLoc cfg c t) _ (fun w => stage_held hw c t w (Y w))); iexact HW
      · iapply (held_of_chain scratch (fun b => (c : Thread nD τ).loc b) _ (fun _ => .rfl)); iexact HS
  · refine (sep_mono_right ((h t).safe defs Variants.none)).trans ?_
    refine (wp_frame_l _ _ _).trans (wp_mono _ _ _ fun _ => ?_)
    rw [windows_chain]
    show _ ⊢ iprop(Pipeline.ΦA cfg.spec c ∗ _ ∗ _)
    unfold Pipeline.ΦA
    rw [e]
    refine (sep_mono_right (held_append _ _).1).trans ?_
    iintro ⟨⟨HR, HO⟩, HW, HS⟩
    isplitl [HS HR]
    · isplitl [HS]
      · iapply (chain_of_held scratch (fun b => (c : Thread nD τ).loc b) _ (fun _ => .rfl)); iexact HS
      · iexact HR
    isplitl [HO]; · iexact HO
    iapply (chain_of_held (List.finRange cfg.W) (stageLoc cfg c t) _ (fun w => held_stage hw c t w)); iexact HW

end Cert.Proof

end
-- ==== Proof.MixersFrame.lean ====
/-
  The frame of the mixers kernel: it runs to its end without a fault, its argument arrays end as they began, and every
  semaphore is at zero again. The body's loads and stores are all into the current staging buffers and the eleven scratch
  buffers (`within`), which is all that the pipeline's run asks of a body of which nothing else is said (`body_any`).
-/
module

public import proofs.«01_k».proof.Proof.Gen.Kernel.Frame
public import proofs.«01_k».proof.Proof.MixersBody
public import proofs.«01_k».proof.Proof.AnyFrame
public import proofs.«01_k».proof.Defs

@[expose] public section

noncomputable section

namespace Cert.Proof.Mixers

open Idealize.ShloMosaic Idealize.ShloMosaic.TcCoe Idealize.SL Idealize.SL.Sem
open Cert.Kernel

variable {F : FTy → Type} [FloatOps F]

/-- The kernel's scratch buffers. -/
abbrev scratch : List (Ref sig .tc) :=
  [cc0_scratch0, cc0_scratch1, cc0_scratch2, cc0_scratch3, cc0_scratch4, cc0_scratch5, cc0_scratch6, cc0_scratch7, cc0_scratch8,
    cc0_scratch9, cc0_scratch10]

/-- The body at point `t` loads and stores in its buffers only. -/
theorem body_within (c : Dev nD) (t : Fin cfg0.N) :
    Within (Val := Elt F) (Λ := Λ₀) (c : Thread nD τ) (buffers cfg0 scratch c t)
      (defs₀ (F := F) .tc cfg0.body (cfg0.bodyArgs t (cfg0.slots t))) :=
  have s (w : Fin 16) : stageLoc cfg0 c t w ∈ buffers cfg0 scratch c t := stage_mem cfg0 c t w
  have b {b : Ref sig .tc} (h : b ∈ scratch) : (c : Thread nD τ).loc b ∈ buffers cfg0 scratch c t := scratch_mem cfg0 c t h
  within c (buffers cfg0 scratch c t) (grid0.coords t) _ _ _ _ _ _ _ _ _ _ _ _ _ _ _ _ _ _ _ _ _ _ _ _ _ _ _ _ _ _ _ _ _ _ _ _ _ _ _ _ _ _ _ _ _ _ _ _ _ _ _ _ _ _
    (s 0) (s 1) (s 2) (s 3) (s 4) (s 5) (s 6) (s 7) (s 8) (s 9) (s 10) (s 11) (s 12) (s 13) (s 14) (s 15)
    (b (b := cc0_scratch0) (by decide)) (b (b := cc0_scratch1) (by decide)) (b (b := cc0_scratch2) (by decide))
    (b (b := cc0_scratch3) (by decide)) (b (b := cc0_scratch4) (by decide)) (b (b := cc0_scratch5) (by decide))
    (b (b := cc0_scratch6) (by decide)) (b (b := cc0_scratch7) (by decide)) (b (b := cc0_scratch8) (by decide))
    (b (b := cc0_scratch9) (by decide)) (b (b := cc0_scratch10) (by decide))

/-- The body obligation. -/
theorem body (m : (ℓ : Loc nD τ sig) → Buf (Elt F) ℓ) (c : Dev nD) :
    (anyData cfg0 c (Gen.V m c)).BodyObligation defs₀ Variants.none () Set.univ :=
  body_any defs₀ c (Gen.V m c) Gen.stage_whole0 (scratch := scratch) (by decide) (by decide) (body_within c)

/-- The array `b` of the core ends as it began. -/
abbrev Kept (m : (ℓ : Loc nD τ sig) → Buf (Elt F) ℓ) (r : MemSt nD τ sig (Elt F)) (c : Dev nD) (b : Ref sig .tc) : Prop :=
  r.mem ((c.tc : Thread nD τ).loc b) = m ((c.tc : Thread nD τ).loc b)

/-- The kernel runs, its arguments end unchanged, and every semaphore is at zero, in any reading of the floats. -/
theorem frame (m : (ℓ : Loc nD τ sig) → Buf (Elt F) ℓ) (g : Dev nD → PrngReg) :
    θ_run (defs (F := F)) (onTc (τ := τ) (main (F := F))) ⟨m, fun _ => 0, g⟩ fun r =>
      (∀ c : Dev nD, Kept m r.2 c main_arg0 ∧ Kept m r.2 c main_arg1 ∧ Kept m r.2 c main_arg2 ∧ Kept m r.2 c main_arg3
        ∧ Kept m r.2 c main_arg4 ∧ Kept m r.2 c main_arg5 ∧ Kept m r.2 c main_arg6 ∧ Kept m r.2 c main_arg7 ∧ Kept m r.2 c main_arg8
        ∧ Kept m r.2 c main_arg9 ∧ Kept m r.2 c main_arg10 ∧ Kept m r.2 c main_arg11 ∧ Kept m r.2 c main_arg12
        ∧ Kept m r.2 c main_arg13 ∧ Kept m r.2 c main_arg14) ∧ r.2.sem = fun _ => 0 :=
  Pipeline.RDat.θ_run_frame cfgs 0 Gen.launch0 defs₀ Variants.none (fun c => anyData cfg0 c (Gen.V m c)) m g (main (F := F)) (body m)
    (fun _ _ => by simp only [Pipeline.RDat.share, anyData, ite_self]) (fun _ _ => rfl) (Gen.V m) (Gen.hmain m Variants.none)
    (fun _ _ => rfl) (fun _ _ => rfl) _
    fun _ h => ⟨fun c => ⟨h.1.arr_in c 0 rfl, h.1.arr_in c 1 rfl, h.1.arr_in c 2 rfl, h.1.arr_in c 3 rfl, h.1.arr_in c 4 rfl,
      h.1.arr_in c 5 rfl, h.1.arr_in c 6 rfl, h.1.arr_in c 7 rfl, h.1.arr_in c 8 rfl, h.1.arr_in c 9 rfl, h.1.arr_in c 10 rfl,
      h.1.arr_in c 11 rfl, h.1.arr_in c 12 rfl, h.1.arr_in c 13 rfl, h.1.arr_in c 14 rfl⟩, h.2⟩

/-- The claim over the floats. -/
theorem frame_p : Cert.quiescent_Kernel := fun m g _ => frame m g

end Cert.Proof.Mixers

end
-- ==== Proof.MixersIdealFrame.lean ====
/-
  The frame of the mixers kernel over the extended reals. No operation of it was rewritten, so its body is, by
  definition, the one of `MixersBody` (`body_same`); the rest is read off the program as in `MixersFrame`.
-/
module

public import proofs.«01_k».proof.Proof.Gen.KernelIdeal.Frame
public import proofs.«01_k».proof.Proof.Gen.Kernel
public import proofs.«01_k».proof.Proof.MixersBody
public import proofs.«01_k».proof.Proof.AnyFrame
public import proofs.«01_k».proof.Defs

@[expose] public section

noncomputable section

namespace Cert.Proof.MixersIdeal

open Idealize.ShloMosaic Idealize.ShloMosaic.TcCoe Idealize.SL Idealize.SL.Sem
open Cert.KernelIdeal

variable {F : FTy → Type} [FloatOps F]

set_option maxRecDepth 100000 in
set_option maxHeartbeats 0 in
/-- The body is the same term. -/
theorem body_same : cc0_mixers (F := F) = Cert.Kernel.cc0_mixers (F := F) := rfl

/-- The kernel's scratch buffers. -/
abbrev scratch : List (Ref sig .tc) :=
  [cc0_scratch0, cc0_scratch1, cc0_scratch2, cc0_scratch3, cc0_scratch4, cc0_scratch5, cc0_scratch6, cc0_scratch7, cc0_scratch8,
    cc0_scratch9, cc0_scratch10]

/-- The body at point `t` loads and stores in its buffers only. -/
theorem body_within (c : Dev nD) (t : Fin cfg0.N) :
    Within (Val := Elt F) (Λ := Λ₀) (c : Thread nD τ) (buffers cfg0 scratch c t)
      (defs₀ (F := F) .tc cfg0.body (cfg0.bodyArgs t (cfg0.slots t))) := by
  have s (w : Fin 16) : stageLoc (τ := τ) cfg0 c t w ∈ buffers (τ := τ) cfg0 scratch c t := stage_mem cfg0 c t w
  have b {b : Ref sig .tc} (h : b ∈ scratch) : (c : Thread nD τ).loc b ∈ buffers (τ := τ) cfg0 scratch c t := scratch_mem cfg0 c t h
  dsimp only [defs₀, Defs.onTc, cfg0]
  rw [body_same]
  exact Mixers.within c (buffers cfg0 scratch c t) (grid0.coords t) _ _ _ _ _ _ _ _ _ _ _ _ _ _ _ _ _ _ _ _ _ _ _ _ _ _ _ _ _ _ _ _ _ _ _ _ _ _ _ _ _ _ _ _ _ _ _ _ _ _ _ _ _ _
    (s 0) (s 1) (s 2) (s 3) (s 4) (s 5) (s 6) (s 7) (s 8) (s 9) (s 10) (s 11) (s 12) (s 13) (s 14) (s 15)
    (b (b := cc0_scratch0) (by decide)) (b (b := cc0_scratch1) (by decide)) (b (b := cc0_scratch2) (by decide))
    (b (b := cc0_scratch3) (by decide)) (b (b := cc0_scratch4) (by decide)) (b (b := cc0_scratch5) (by decide))
    (b (b := cc0_scratch6) (by decide)) (b (b := cc0_scratch7) (by decide)) (b (b := cc0_scratch8) (by decide))
    (b (b := cc0_scratch9) (by decide)) (b (b := cc0_scratch10) (by decide))

/-- The body obligation. -/
theorem body (m : (ℓ : Loc nD τ sig) → Buf (Elt F) ℓ) (c : Dev nD) :
    (anyData cfg0 c (Gen.V m c)).BodyObligation defs₀ Variants.none () Set.univ :=
  body_any defs₀ c (Gen.V m c) Gen.stage_whole0 (scratch := scratch) (by decide) (by decide) (body_within c)

/-- The claim over the extended reals. -/
theorem frame : Cert.quiescent_KernelIdeal := fun m g _ =>
  Pipeline.RDat.θ_run_frame cfgs 0 Gen.launch0 defs₀ Variants.none (fun c => anyData cfg0 c (Gen.V m c)) m g (main (F := Ideal)) (body m)
    (fun _ _ => by simp only [Pipeline.RDat.share, anyData, ite_self]) (fun _ _ => rfl) (Gen.V m) (Gen.hmain m Variants.none)
    (fun _ _ => rfl) (fun _ _ => rfl) _
    fun _ h => ⟨fun c => ⟨h.1.arr_in c 0 rfl, h.1.arr_in c 1 rfl, h.1.arr_in c 2 rfl, h.1.arr_in c 3 rfl, h.1.arr_in c 4 rfl,
      h.1.arr_in c 5 rfl, h.1.arr_in c 6 rfl, h.1.arr_in c 7 rfl, h.1.arr_in c 8 rfl, h.1.arr_in c 9 rfl, h.1.arr_in c 10 rfl,
      h.1.arr_in c 11 rfl, h.1.arr_in c 12 rfl, h.1.arr_in c 13 rfl, h.1.arr_in c 14 rfl⟩, h.2⟩

end Cert.Proof.MixersIdeal

end
-- ==== Proof.FfnSpec.lean ====
/- The feed-forward layer, with and without its closing normalisation, entry by entry, over the extended reals: the
   entries of the normalised input, of the hidden layer and of the layer's sum, and the two readings of
   them that the value proof sets side by side: the reference's composed term and the kernel's stored blocks. -/
module

public import proofs.«01_k».proof.Proof.Gen.FfnIdeal.Skeleton
public import proofs.«01_k».proof.Proof.Gen.FfnRefIdeal.Run
public import Idealize.ShloMosaic.Lib.Pointwise

@[expose] public section

set_option maxRecDepth 16384

noncomputable section

namespace Cert.FfnSpec

open Idealize.ShloMosaic Idealize.ShloMosaic.TcCoe

/-- One over the root of a row's mean square: the factor of the row in a root-mean-square normalisation. -/
def scl (f : Fin 2048 → EReal) : EReal :=
  Ideal.rsqrt (Ideal.div (∑ k : Fin 2048, f k * f k) (Ideal.ofBits .f32 0x45000000#32) + Ideal.ofBits .f32 0x358637BD#32)

/-- A hidden entry from its row's two products with the two weight columns: `gate · sigmoid gate · up`. -/
def act (n g u : Fin 2048 → EReal) : EReal :=
  (∑ k, n k * g k) * Ideal.div 1 (1 + Ideal.exp (-(∑ k, n k * g k))) * ∑ k, n k * u k

end Cert.FfnSpec

namespace Cert.FfnRefIdeal.Pure

open Cert.FfnRefIdeal Cert.FfnRefIdeal.Gen Idealize.ShloMosaic Idealize.ShloMosaic.TcCoe Cert.FfnSpec

variable (X : FVec Ideal S16384x2048 .f32) (W : FVec Ideal S2048 .f32) (G U : FVec Ideal S1x2048x5632 .bf16)
  (D : FVec Ideal S1x5632x2048 .bf16) (Wf : FVec Ideal S2048 .f32)

/-- The reference's root-mean-square normalisation, its operations in order. -/
def normT (X : FVec Ideal S16384x2048 .f32) (W : FVec Ideal S2048 .f32) : FVec Ideal S16384x2048 .f32 :=
  mulf (mulf X (broadcastInDim S16384x2048 ![0, 1] bcast_S16384x1_S16384x2048_0_1 (Host.rsqrt (addf (Host.divf
    (broadcastInDim S16384x1 ![0] bcast_S16384_S16384x1_0 (Host.reduceAdd (mulf X X) (constant S_ .f32 0x00000000#32) reducesTo_S16384x2048_S16384_d1 h_S_))
    (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 W))

/-- The reference's product with one of the two first weights. -/
def prodT (N : FVec Ideal S16384x2048 .f32) (G : FVec Ideal S1x2048x5632 .bf16) : FVec Ideal S16384x5632 .f32 :=
  Host.dotGeneral dot_S16384x2048_S2048x5632_S16384x5632_1_0_0_1_n_n none N
    (extf .f32 (shapeCast _ G shapeCasts_S1x2048x5632_S2048x5632) bitsLt_bf16_f32)

/-- The reference's hidden layer from the two products. -/
def gluT (A B : FVec Ideal S16384x5632 .f32) : FVec Ideal S16384x5632 .f32 :=
  mulf (mulf A (Host.divf (broadcastInDim S16384x5632 ![] bcast_S_S16384x5632 (constant S_ .f32 0x3F800000#32))
    (addf (broadcastInDim S16384x5632 ![] bcast_S_S16384x5632 (constant S_ .f32 0x3F800000#32)) (Host.exp (Host.negf A))))) B

/-- The reference's sum before the closing normalisation. -/
def totT (X : FVec Ideal S16384x2048 .f32) (H : FVec Ideal S16384x5632 .f32) (D : FVec Ideal S1x5632x2048 .bf16) :
    FVec Ideal S16384x2048 .f32 :=
  addf X (Host.dotGeneral dot_S16384x5632_S5632x2048_S16384x2048_1_0_0_1_n_n none H
    (extf .f32 (shapeCast _ D shapeCasts_S1x5632x2048_S5632x2048) bitsLt_bf16_f32))

theorem normT_at (X : FVec Ideal S16384x2048 .f32) (W : FVec Ideal S2048 .f32) (r : Fin 16384) (k : Fin 2048) :
    normT X W (ix2 r k) = X (ix2 r k) * scl (fun k => X (ix2 r k)) * W (ix1 k) := by
  pointwise [normT, scl]

theorem prodT_at (N : FVec Ideal S16384x2048 .f32) (G : FVec Ideal S1x2048x5632 .bf16) (r : Fin 16384) (f : Fin 5632) :
    prodT N G (ix2 r f) = ∑ k : Fin 2048, N (ix2 r k) * G (ix3 0 k f) := by
  pointwise [prodT]

theorem gluT_at (A B : FVec Ideal S16384x5632 .f32) (r : Fin 16384) (f : Fin 5632) :
    gluT A B (ix2 r f) = A (ix2 r f) * Ideal.div 1 (1 + Ideal.exp (-(A (ix2 r f)))) * B (ix2 r f) := by
  pointwise [gluT]

theorem totT_at (X : FVec Ideal S16384x2048 .f32) (H : FVec Ideal S16384x5632 .f32) (D : FVec Ideal S1x5632x2048 .bf16)
    (r : Fin 16384) (l : Fin 2048) :
    totT X H D (ix2 r l) = X (ix2 r l) + ∑ f : Fin 5632, H (ix2 r f) * D (ix3 0 f l) := by
  pointwise [totT]

/-- The reference's composed term before the closing normalisation, in these stages. -/
def sumT : FVec Ideal S16384x2048 .f32 :=
  totT X (gluT (prodT (normT X W) G) (prodT (normT X W) U)) D

/-- The reference's composed term. -/
def refT : FVec Ideal S16384x2048 .f32 :=
  normT (sumT X W G U D) Wf

theorem res_eq (m : (ℓ : Loc nD τ sig) → Buf (Elt Ideal) ℓ) (c : Dev nD) :
    Cert.FfnRefIdeal.Value.res_out0 m c
      = refT (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.FfnRefIdeal.Value.res_out0 Cert.FfnRefIdeal.Value.res_main_v43
  rfl

/-- The normalised input at row `r`, column `k`. -/
def nrm (r : Fin 16384) (k : Fin 2048) : EReal :=
  X (ix2 r k) * scl (fun k => X (ix2 r k)) * W (ix1 k)

/-- The hidden layer at row `r`, unit `f`. -/
def hid (r : Fin 16384) (f : Fin 5632) : EReal :=
  act (nrm X W r) (fun k => G (ix3 0 k f)) (fun k => U (ix3 0 k f))

/-- The layer's sum at row `r`, column `l`: the input plus the hidden layer times the second weight. -/
def tot (r : Fin 16384) (l : Fin 2048) : EReal :=
  X (ix2 r l) + ∑ f : Fin 5632, hid X W G U r f * D (ix3 0 f l)

/-- The result at row `r`, column `l`. -/
def res (r : Fin 16384) (l : Fin 2048) : EReal :=
  tot X W G U D r l * scl (fun l => tot X W G U D r l) * Wf (ix1 l)

theorem sum_at (r : Fin 16384) (l : Fin 2048) : sumT X W G U D (ix2 r l) = tot X W G U D r l := by
  have h1 : ∀ r f, prodT (normT X W) G (ix2 r f) = ∑ k, nrm X W r k * G (ix3 0 k f) := fun r f => by
    rw [prodT_at]; simp only [normT_at]; rfl
  have h2 : ∀ r f, prodT (normT X W) U (ix2 r f) = ∑ k, nrm X W r k * U (ix3 0 k f) := fun r f => by
    rw [prodT_at]; simp only [normT_at]; rfl
  unfold sumT
  rw [totT_at]; simp only [gluT_at, h1, h2]; rfl

theorem ref_at (r : Fin 16384) (l : Fin 2048) : refT X W G U D Wf (ix2 r l) = res X W G U D Wf r l := by
  unfold refT
  rw [normT_at]
  simp only [sum_at]
  rfl

end Cert.FfnRefIdeal.Pure

namespace Cert.FfnIdeal.Pure

open Cert.FfnIdeal Cert.FfnIdeal.Gen Idealize.ShloMosaic Idealize.ShloMosaic.TcCoe Cert.FfnSpec

theorem pay1_at (x : FVec Ideal S1024x2048 .f32) (w : FVec Ideal S1x2048 .f32) (r : Fin 1024) (k : Fin 2048) :
    k0_pay1 (F := Ideal) x w (ix2 r k) = x (ix2 r k) * scl (fun k => x (ix2 r k)) * w (ix2 0 k) := by
  pointwise [k0_pay1, scl]

theorem pay3_at (x : FVec Ideal S1024x2048 .f32) (w : FVec Ideal S1x2048 .f32) (r : Fin 1024) (k : Fin 2048) :
    k0_pay3 (F := Ideal) x w (ix2 r k) = x (ix2 r k) * scl (fun k => x (ix2 r k)) * w (ix2 0 k) := by
  pointwise [k0_pay3, scl]

theorem pay2_at (n : FVec Ideal S1024x2048 .bf16) (g u : FVec Ideal S1x2048x512 .bf16) (a : FVec Ideal S1024x2048 .f32)
    (d : FVec Ideal S1x512x2048 .bf16) (r : Fin 1024) (l : Fin 2048) :
    k0_pay2 (F := Ideal) n g u a d (ix2 r l)
      = a (ix2 r l) + ∑ f : Fin 512, act (fun k => n (ix2 r k)) (fun k => g (ix3 0 k f)) (fun k => u (ix3 0 k f)) * d (ix3 0 f l) := by
  pointwise [k0_pay2, act]
  simp only [zero_sub]

end Cert.FfnIdeal.Pure
-- ==== Proof.FfnSweep.lean ====
/-
  The sweep over the hidden blocks that both feed-forward calls make, the one that ends with the closing normalisation and
  the one that does not. A row block of the output is visited at eleven points in a row. The first normalises the input
  rows, keeps them, and stores the input; each of the eleven adds one hidden block's part of the sum. `Blocks` says which
  parts of the arrays a point's blocks are, `Held` what the two carried buffers hold after a point; `Blocks.first` and
  `Blocks.next` are one point's work, and `Held.last` is the sum complete.
-/
module

public import proofs.«01_k».proof.Proof.FfnSpec
public import Idealize.ShloMosaic.Lib.Pipeline.ValueKit

@[expose] public section

set_option maxRecDepth 16384

noncomputable section

namespace Cert.FfnSweep

open Cert.FfnIdeal Cert.FfnIdeal.Gen Cert.FfnIdeal.Pure Cert.FfnRefIdeal.Pure Cert.FfnSpec
open Idealize.ShloMosaic Idealize.ShloMosaic.TcCoe

variable (X : FVec Ideal S16384x2048 .f32) (W : FVec Ideal S2048 .f32) (G U : FVec Ideal S1x2048x5632 .bf16)
  (D : FVec Ideal S1x5632x2048 .bf16)

/-- The blocks that point `t` is handed, as parts of the arrays. -/
structure Blocks (t : ℕ) (bx : FVec Ideal S1024x2048 .f32) (bw : FVec Ideal S1x2048 .f32) (bg bu : FVec Ideal S1x2048x512 .bf16)
    (bd : FVec Ideal S1x512x2048 .bf16) : Prop where
  lt : t < 176
  x : ∀ (r : Fin 1024) (k : Fin 2048) (r' : Fin 16384), r'.val = t / 11 * 1024 + r.val → bx (ix2 r k) = X (ix2 r' k)
  w : ∀ k : Fin 2048, bw (ix2 0 k) = W (ix1 k)
  g : ∀ (k : Fin 2048) (f : Fin 512) (f' : Fin 5632), f'.val = t % 11 * 512 + f.val → bg (ix3 0 k f) = G (ix3 0 k f')
  u : ∀ (k : Fin 2048) (f : Fin 512) (f' : Fin 5632), f'.val = t % 11 * 512 + f.val → bu (ix3 0 k f) = U (ix3 0 k f')
  d : ∀ (f : Fin 512) (l : Fin 2048) (f' : Fin 5632), f'.val = t % 11 * 512 + f.val → bd (ix3 0 f l) = D (ix3 0 f' l)

/-- One hidden unit's part of the sum at row `r`, column `l`. -/
def unit (r : Fin 16384) (l : Fin 2048) (f : Fin 5632) : EReal :=
  hid X W G U r f * D (ix3 0 f l)

/-- The part of hidden block `s`. -/
def part (r : Fin 16384) (l : Fin 2048) (s : ℕ) : EReal :=
  if h : s < 11 then ∑ f : Fin 512, unit X W G U D r l ⟨s * 512 + f.val, by omega⟩ else 0

/-- The array row that row `r` of the block at point `t` is. -/
def row (t : ℕ) (ht : t < 176) (r : Fin 1024) : Fin 16384 :=
  ⟨t / 11 * 1024 + r.val, by omega⟩

/-- What the carried buffers hold after point `t`: the normalised rows, and the input plus the parts of the hidden blocks
    seen so far. -/
def Held (t : ℕ) (o : FVec Ideal S1024x2048 .f32 × FVec Ideal S1024x2048 .bf16) : Prop :=
  ∃ ht : t < 176, (∀ r k, o.2 (ix2 r k) = nrm X W (row t ht r) k)
    ∧ ∀ r l, o.1 (ix2 r l) = X (ix2 (row t ht r) l) + ∑ s ∈ Finset.range (t % 11 + 1), part X W G U D (row t ht r) l s

variable {X W G U D} {t : ℕ} {bx : FVec Ideal S1024x2048 .f32} {bw : FVec Ideal S1x2048 .f32} {bg bu : FVec Ideal S1x2048x512 .bf16}
  {bd : FVec Ideal S1x512x2048 .bf16}

/-- The normalised block a row block's first point keeps. -/
theorem Blocks.norm_at (b : Blocks X W G U D t bx bw bg bu bd) (r : Fin 1024) (k : Fin 2048) :
    k0_pay1 (F := Ideal) bx bw (ix2 r k) = nrm X W (row t b.lt r) k := by
  have e : ∀ k, bx (ix2 r k) = X (ix2 (row t b.lt r) k) := fun k => b.x r k _ rfl
  refine (pay1_at bx bw r k).trans ?_
  unfold nrm
  exact congrArg₂ (fun (a b : EReal) => a * b)
    (congrArg₂ (fun (a b : EReal) => a * b) (e k) (congrArg scl (funext e))) (b.w k)

/-- A point adds its hidden block's part. -/
theorem Blocks.step_at (b : Blocks X W G U D t bx bw bg bu bd) (n : FVec Ideal S1024x2048 .bf16) (a : FVec Ideal S1024x2048 .f32)
    (r : Fin 1024) (l : Fin 2048) (hn : ∀ k, n (ix2 r k) = nrm X W (row t b.lt r) k) :
    k0_pay2 (F := Ideal) n bg bu a bd (ix2 r l) = a (ix2 r l) + part X W G U D (row t b.lt r) l (t % 11) := by
  refine (pay2_at n bg bu a bd r l).trans ?_
  refine congrArg (fun x : EReal => a (ix2 r l) + x) ?_
  unfold part
  rw [dif_pos (Nat.mod_lt _ (by decide))]
  refine Finset.sum_congr rfl fun f _ => ?_
  unfold unit hid
  refine congrArg₂ (fun (a b : EReal) => a * b) ?_ (b.d f l _ rfl)
  have h1 : (fun k => n (ix2 r k)) = nrm X W (row t b.lt r) := funext hn
  have h2 : (fun k => bg (ix3 0 k f)) = fun k => G (ix3 0 k ⟨t % 11 * 512 + f.val, by omega⟩) := funext fun k => b.g k f _ rfl
  have h3 : (fun k => bu (ix3 0 k f)) = fun k => U (ix3 0 k ⟨t % 11 * 512 + f.val, by omega⟩) := funext fun k => b.u k f _ rfl
  exact (congrArg (fun n => act n _ _) h1).trans ((congrArg (fun g => act _ g _) h2).trans (congrArg (fun u => act _ _ u) h3))

/-- A row block's first point. -/
theorem Blocks.first (b : Blocks X W G U D t bx bw bg bu bd) (h0 : t % 11 = 0) :
    Held X W G U D t (k0_pay2 (F := Ideal) (k0_pay1 (F := Ideal) bx bw) bg bu bx bd, k0_pay1 (F := Ideal) bx bw) := by
  refine ⟨b.lt, fun r k => b.norm_at r k, fun r l => ?_⟩
  refine (b.step_at _ _ r l fun k => b.norm_at r k).trans ?_
  rw [Finset.sum_range_succ, h0, Finset.sum_range_zero, zero_add]
  exact congrArg (fun x : EReal => x + _) (b.x r l _ rfl)

/-- Any other point, from what the point before left. -/
theorem Blocks.next (b : Blocks X W G U D t bx bw bg bu bd) (h0 : ¬t % 11 = 0)
    {o : FVec Ideal S1024x2048 .f32 × FVec Ideal S1024x2048 .bf16} (i : Held X W G U D (t - 1) o) :
    Held X W G U D t (k0_pay2 (F := Ideal) o.2 bg bu o.1 bd, o.2) := by
  obtain ⟨ht, i1, i2⟩ := i
  have hrow : ∀ r, row (t - 1) ht r = row t b.lt r := fun r => Fin.ext (by
    show (t - 1) / 11 * 1024 + r.val = t / 11 * 1024 + r.val
    rw [show (t - 1) / 11 = t / 11 by omega])
  simp only [hrow] at i1 i2
  refine ⟨b.lt, i1, fun r l => ?_⟩
  refine (b.step_at _ _ r l fun k => i1 r k).trans ?_
  rw [Finset.sum_range_succ, show t % 11 = (t - 1) % 11 + 1 by omega, ← add_assoc]
  exact congrArg (fun x : EReal => x + _) (i2 r l)

/-- After a row block's last point the sum is complete. -/
theorem Held.last {o : FVec Ideal S1024x2048 .f32 × FVec Ideal S1024x2048 .bf16} (h : Held X W G U D t o) (h1 : t % 11 = 10)
    (ht : t < 176) (r : Fin 1024) (l : Fin 2048) : o.1 (ix2 r l) = tot X W G U D (row t ht r) l := by
  obtain ⟨_, -, i⟩ := h
  refine (i r l).trans ?_
  rw [h1, Finset.sum_range]
  unfold tot
  refine congrArg (fun x : EReal => _ + x) ?_
  refine Eq.trans ?_ (Fin.sum_univ_tiles 11 512 rfl (unit X W G U D (row t ht r) l)).symm
  refine Finset.sum_congr rfl fun s _ => ?_
  unfold part
  rw [dif_pos s.isLt]

end Cert.FfnSweep

end
-- ==== Proof.FfnMidValue.lean ====
/-
  What the feed-forward call without the closing normalisation leaves in its result. Its body's two stores are those of the
  call with it (`pay1_eq`, `pay2_eq`), so the sweep over the hidden blocks is the same (`FfnSweep`), and its last point is
  a point like the others.
-/
module

public import Idealize.ShloMosaic.Lib.Pipeline.ReadBack
public import proofs.«01_k».proof.Proof.FfnSweep
public import proofs.«01_k».proof.Proof.Gen.FfnMidIdeal.Value
public import Idealize.ShloMosaic.Lib.Pipeline.ValueKit

@[expose] public section

set_option maxRecDepth 16384

noncomputable section

namespace Cert.FfnMidIdeal.Value

open Cert.FfnMidIdeal Cert.FfnMidIdeal.Gen Idealize.ShloMosaic Idealize.ShloMosaic.TcCoe Idealize.SL.Sem Cert.FfnSpec
open Idealize.ShloMosaic.Pipeline (Dat)

theorem pay1_eq : k0_pay1 (F := Ideal) = Cert.FfnIdeal.Gen.k0_pay1 (F := Ideal) := rfl

theorem pay2_eq : k0_pay2 (F := Ideal) = Cert.FfnIdeal.Gen.k0_pay2 (F := Ideal) := rfl

variable (m : (ℓ : Loc nD τ sig) → Buf (Elt Ideal) ℓ)

/-- Every window's block index, at all points. -/
theorem idx : ∀ t : Fin cfg0.N, win0_0.index t = ![t.val / 11, 0] ∧ win0_1.index t = ![0, 0] ∧ win0_2.index t = ![0, 0, t.val % 11]
    ∧ win0_3.index t = ![0, 0, t.val % 11] ∧ win0_4.index t = ![0, t.val % 11, 0] ∧ win0_5.index t = ![0, 0] ∧ win0_6.index t = ![t.val / 11, 0] :=
  (by decide +kernel : ∀ t : Fin grid0.N, _)

theorem left_A (c : Dev nD) (t : Fin cfg0.N) (h0 : t.val % 11 = 0) :
    outsAt0 m c t.val t.isLt = (k0_pay2 (F := Ideal) (k0_pay1 (F := Ideal) (iblk m c 0 t) (iblk m c 1 t)) (iblk m c 2 t) (iblk m c 3 t)
        (iblk m c 0 t) (iblk m c 4 t), k0_pay1 (F := Ideal) (iblk m c 0 t) (iblk m c 1 t)) := by
  rw [outsAt0_A m c t h0]
  refine Prod.ext ?_ ?_
  · dsimp only
    frame_out
  · dsimp only
    frame_out

theorem left_B (c : Dev nD) (t : Fin cfg0.N) (h0 : ¬t.val % 11 = 0) (acc : Vec Ideal S1024x2048 .f32 × Vec Ideal S1024x2048 .bf16)
    (ha : outsAt0 m c (t.val - 1) (Nat.lt_of_le_of_lt (Nat.sub_le _ _) t.isLt) = acc) :
    outsAt0 m c t.val t.isLt = (k0_pay2 (F := Ideal) acc.2 (iblk m c 2 t) (iblk m c 3 t) acc.1 (iblk m c 4 t), acc.2) := by
  rw [outsAt0_B m c t h0, ha]
  refine Prod.ext ?_ ?_
  · dsimp only
    frame_out
    simp only [read_unread_whole]
  · rfl

theorem V_v0 (c : Dev nD) : V m c main_v0 = shapeCast S1x2048 (m ((c : Thread nD τ).loc main_arg1)) shapeCasts_S2048_S1x2048 := by
  unfold V; after_results; try rfl

variable (c : Dev nD) (t : Fin cfg0.N)

/-- The arguments' arrays at their literal types. -/
abbrev aX : FVec Ideal S16384x2048 .f32 := m ((c : Thread nD τ).loc main_arg0)
abbrev aW : FVec Ideal S2048 .f32 := m ((c : Thread nD τ).loc main_arg1)
abbrev aG : FVec Ideal S1x2048x5632 .bf16 := m ((c : Thread nD τ).loc main_arg2)
abbrev aU : FVec Ideal S1x2048x5632 .bf16 := m ((c : Thread nD τ).loc main_arg3)
abbrev aD : FVec Ideal S1x5632x2048 .bf16 := m ((c : Thread nD τ).loc main_arg4)

theorem x_at (r : Fin 1024) (k : Fin 2048) (r' : Fin 16384) (hr : r'.val = t.val / 11 * 1024 + r.val) :
    (show FVec Ideal S1024x2048 .f32 from iblk m c 0 t) (ix2 r k) = aX m c (ix2 r' k) := by
  blk_ext! [iblk, V, idx t]

theorem w_at (k : Fin 2048) : (show FVec Ideal S1x2048 .f32 from iblk m c 1 t) (ix2 0 k) = aW m c (ix1 k) := by
  have e : (show FVec Ideal S1x2048 .f32 from iblk m c 1 t) (ix2 0 k) = (show FVec Ideal S1x2048 .f32 from V m c main_v0) (ix2 0 k) := by
    blk_ext! [iblk, idx t]
  rw [e, V_v0]
  pointwise []

theorem g_at (k : Fin 2048) (f : Fin 512) (f' : Fin 5632) (hf : f'.val = t.val % 11 * 512 + f.val) :
    (show FVec Ideal S1x2048x512 .bf16 from iblk m c 2 t) (ix3 0 k f) = aG m c (ix3 0 k f') := by
  blk_ext! [iblk, V, idx t]

theorem u_at (k : Fin 2048) (f : Fin 512) (f' : Fin 5632) (hf : f'.val = t.val % 11 * 512 + f.val) :
    (show FVec Ideal S1x2048x512 .bf16 from iblk m c 3 t) (ix3 0 k f) = aU m c (ix3 0 k f') := by
  blk_ext! [iblk, V, idx t]

theorem d_at (f : Fin 512) (l : Fin 2048) (f' : Fin 5632) (hf : f'.val = t.val % 11 * 512 + f.val) :
    (show FVec Ideal S1x512x2048 .bf16 from iblk m c 4 t) (ix3 0 f l) = aD m c (ix3 0 f' l) := by
  blk_ext! [iblk, V, idx t]

/-- The blocks of point `t` are the parts of the arrays that the sweep reads there. -/
theorem blocks : Cert.FfnSweep.Blocks (aX m c) (aW m c) (aG m c) (aU m c) (aD m c) t.val (iblk m c 0 t) (iblk m c 1 t) (iblk m c 2 t)
    (iblk m c 3 t) (iblk m c 4 t) :=
  ⟨lt_of_lt_of_eq t.isLt (show cfg0.N = 176 from N_0), x_at m c t, w_at m c t, g_at m c t, u_at m c t, d_at m c t⟩

theorem held : ∀ (n : ℕ) (h : n < cfg0.N), Cert.FfnSweep.Held (aX m c) (aW m c) (aG m c) (aU m c) (aD m c) n (outsAt0 m c n h) := by
  intro n
  induction n with
  | zero =>
    intro h
    rw [left_A m c ⟨0, h⟩ rfl, pay1_eq, pay2_eq]
    exact (blocks m c ⟨0, h⟩).first rfl
  | succ n ih =>
    intro h
    by_cases h0 : (n + 1) % 11 = 0
    · rw [left_A m c ⟨n + 1, h⟩ h0, pay1_eq, pay2_eq]
      exact (blocks m c ⟨n + 1, h⟩).first h0
    · rw [left_B m c ⟨n + 1, h⟩ h0 _ rfl, pay2_eq]
      exact (blocks m c ⟨n + 1, h⟩).next h0 (ih (Nat.lt_of_succ_lt h))

/-- The result array after the run is the reference's sum. -/
theorem final : (dats m 0 c).arrAt 6 (cfgs 0).N
    = Cert.FfnRefIdeal.Pure.sumT (aX m c) (aW m c) (aG m c) (aU m c) (aD m c) := by
  refine (dats m 0 c).arrAt_eq_of_covers 6 _ (by decide +kernel) fun t hf y => ?_
  blk_simp
  rw [after0_6]
  idx_vars y
  refine ((held m c t.val t.isLt).last ((flush0_6 t).mp hf) (blocks m c t).lt y0 y1).trans ?_
  refine (Cert.FfnRefIdeal.Pure.sum_at _ _ _ _ _ _ _).symm.trans ?_
  refine congrArg _ ?_
  blk_ext! [Cert.FfnSweep.row, idx t]

end Cert.FfnMidIdeal.Value

end
-- ==== Proof.FfnMidClaims.lean ====
/- The claims about the feed-forward layer without the closing normalisation. -/
module

public import proofs.«01_k».proof.Defs
public import proofs.«01_k».proof.Proof.FfnMidValue
public import proofs.«01_k».proof.Proof.Gen.FfnMid.Frame
public import proofs.«01_k».proof.Proof.Gen.FfnMidRefIdeal.Run

@[expose] public section

noncomputable section

namespace Cert.Proof.FfnMid

open Idealize.ShloMosaic Idealize.ShloMosaic.TcCoe Idealize.SL.Sem

theorem frame_p : Cert.quiescent_FfnMid := fun m ρ _ => Cert.FfnMid.Gen.frame m ρ

theorem frame_i : Cert.quiescent_FfnMidIdeal := fun m ρ _ => Cert.FfnMidIdeal.Gen.frame m ρ

/-- The reference declares no semaphore, and its run leaves its arguments. -/
theorem frame_r : Cert.quiescent_FfnMidRefIdeal := fun m ρ _ =>
  (θ_run Cert.FfnMidRefIdeal.defs _ _).mono (fun r h => ⟨fun c => (h c).2, sem_eq_zero_of_no_sems (by decide) r.2⟩)
    (Cert.FfnMidRefIdeal.Value.run m ρ)

/-- Both runs end with the reference's sum of the arguments. -/
theorem algebraic : Cert.algebraic_FfnMidIdeal_FfnMidRefIdeal := by
  intro m ρ m' ρ' _ hag
  refine ⟨fun c => Cert.FfnRefIdeal.Pure.sumT (Cert.FfnMidIdeal.Value.aX m c) (Cert.FfnMidIdeal.Value.aW m c) (Cert.FfnMidIdeal.Value.aG m c)
    (Cert.FfnMidIdeal.Value.aU m c) (Cert.FfnMidIdeal.Value.aD m c), ?_, ?_⟩
  · exact (θ_run Cert.FfnMidIdeal.defs _ _).mono
      (fun r h c => ⟨(h c).1.trans ((Cert.FfnMidIdeal.Value.final6 m c).symm.trans (Cert.FfnMidIdeal.Value.final m c)), (h c).2⟩)
      (Cert.FfnMidIdeal.Value.run m ρ)
  refine (θ_run Cert.FfnMidRefIdeal.defs _ _).mono (fun r h c => ⟨(h c).1.trans ?_, (h c).2⟩) (Cert.FfnMidRefIdeal.Value.run m' ρ')
  obtain ⟨h0, h1, h2, h3, h4, h5⟩ := hag c
  rw [h0, h1, h2, h3, h4]
  rfl

end Cert.Proof.FfnMid

end
-- ==== Proof.FfnValue.lean ====
/-
  What the feed-forward call with the closing normalisation leaves in its result: what a point's body leaves in the carried
  buffers (`left_A`, `left_B`, `left_C`), what its blocks are, and the sweep over them (`FfnSweep`).
-/
module

public import Idealize.ShloMosaic.Lib.Pipeline.ReadBack
public import proofs.«01_k».proof.Proof.FfnSweep
public import proofs.«01_k».proof.Proof.Gen.FfnIdeal.Value
public import Idealize.ShloMosaic.Lib.Pipeline.ValueKit

@[expose] public section

set_option maxRecDepth 16384

noncomputable section

namespace Cert.FfnIdeal.Value

open Cert.FfnIdeal Cert.FfnIdeal.Gen Cert.FfnIdeal.Pure Idealize.ShloMosaic Idealize.ShloMosaic.TcCoe Idealize.SL.Sem Cert.FfnSpec
open Idealize.ShloMosaic.Pipeline (Dat)

variable (m : (ℓ : Loc nD τ sig) → Buf (Elt Ideal) ℓ)

/-- Every window's block index, at all points. -/
theorem idx : ∀ t : Fin cfg0.N, win0_0.index t = ![t.val / 11, 0] ∧ win0_1.index t = ![0, 0] ∧ win0_2.index t = ![0, 0, t.val % 11]
    ∧ win0_3.index t = ![0, 0, t.val % 11] ∧ win0_4.index t = ![0, t.val % 11, 0] ∧ win0_5.index t = ![0, 0] ∧ win0_6.index t = ![t.val / 11, 0] :=
  (by decide +kernel : ∀ t : Fin grid0.N, _)

theorem left_A (c : Dev nD) (t : Fin cfg0.N) (h0 : t.val % 11 = 0) (h1 : ¬t.val % 11 = 10) :
    outsAt0 m c t.val t.isLt = (k0_pay2 (F := Ideal) (k0_pay1 (F := Ideal) (iblk m c 0 t) (iblk m c 1 t)) (iblk m c 2 t) (iblk m c 3 t)
        (iblk m c 0 t) (iblk m c 4 t), k0_pay1 (F := Ideal) (iblk m c 0 t) (iblk m c 1 t)) := by
  rw [outsAt0_A m c t h0 h1]
  refine Prod.ext ?_ ?_
  · dsimp only
    frame_out
  · dsimp only
    frame_out

theorem left_B (c : Dev nD) (t : Fin cfg0.N) (h0 : ¬t.val % 11 = 0) (h1 : ¬t.val % 11 = 10) (acc : Vec Ideal S1024x2048 .f32 × Vec Ideal S1024x2048 .bf16)
    (ha : outsAt0 m c (t.val - 1) (Nat.lt_of_le_of_lt (Nat.sub_le _ _) t.isLt) = acc) :
    outsAt0 m c t.val t.isLt = (k0_pay2 (F := Ideal) acc.2 (iblk m c 2 t) (iblk m c 3 t) acc.1 (iblk m c 4 t), acc.2) := by
  rw [outsAt0_B m c t h0 h1, ha]
  refine Prod.ext ?_ ?_
  · dsimp only
    frame_out
    simp only [read_unread_whole]
  · rfl

theorem left_C (c : Dev nD) (t : Fin cfg0.N) (h0 : ¬t.val % 11 = 0) (h1 : t.val % 11 = 10) (acc : Vec Ideal S1024x2048 .f32 × Vec Ideal S1024x2048 .bf16)
    (ha : outsAt0 m c (t.val - 1) (Nat.lt_of_le_of_lt (Nat.sub_le _ _) t.isLt) = acc) :
    (outsAt0 m c t.val t.isLt).1 = k0_pay3 (F := Ideal) (k0_pay2 (F := Ideal) acc.2 (iblk m c 2 t) (iblk m c 3 t) acc.1 (iblk m c 4 t)) (iblk m c 5 t) := by
  rw [outsAt0_C m c t h0 h1, ha]
  dsimp only
  frame_out
  simp only [read_unread_whole]

theorem V_v0 (c : Dev nD) : V m c main_v0 = shapeCast S1x2048 (m ((c : Thread nD τ).loc main_arg1)) shapeCasts_S2048_S1x2048 := by
  unfold V; after_results; try rfl

theorem V_v1 (c : Dev nD) : V m c main_v1 = shapeCast S1x2048 (m ((c : Thread nD τ).loc main_arg5)) shapeCasts_S2048_S1x2048 := by
  unfold V; after_results; try rfl

variable (c : Dev nD) (t : Fin cfg0.N)

/-- The arguments' arrays at their literal types. -/
abbrev aX : FVec Ideal S16384x2048 .f32 := m ((c : Thread nD τ).loc main_arg0)
abbrev aW : FVec Ideal S2048 .f32 := m ((c : Thread nD τ).loc main_arg1)
abbrev aG : FVec Ideal S1x2048x5632 .bf16 := m ((c : Thread nD τ).loc main_arg2)
abbrev aU : FVec Ideal S1x2048x5632 .bf16 := m ((c : Thread nD τ).loc main_arg3)
abbrev aD : FVec Ideal S1x5632x2048 .bf16 := m ((c : Thread nD τ).loc main_arg4)
abbrev aF : FVec Ideal S2048 .f32 := m ((c : Thread nD τ).loc main_arg5)

theorem x_at (r : Fin 1024) (k : Fin 2048) (r' : Fin 16384) (hr : r'.val = t.val / 11 * 1024 + r.val) :
    (show FVec Ideal S1024x2048 .f32 from iblk m c 0 t) (ix2 r k) = aX m c (ix2 r' k) := by
  blk_ext! [iblk, V, idx t]

theorem w_at (k : Fin 2048) : (show FVec Ideal S1x2048 .f32 from iblk m c 1 t) (ix2 0 k) = aW m c (ix1 k) := by
  have e : (show FVec Ideal S1x2048 .f32 from iblk m c 1 t) (ix2 0 k) = (show FVec Ideal S1x2048 .f32 from V m c main_v0) (ix2 0 k) := by
    blk_ext! [iblk, idx t]
  rw [e, V_v0]
  pointwise []

theorem f_at (k : Fin 2048) : (show FVec Ideal S1x2048 .f32 from iblk m c 5 t) (ix2 0 k) = aF m c (ix1 k) := by
  have e : (show FVec Ideal S1x2048 .f32 from iblk m c 5 t) (ix2 0 k) = (show FVec Ideal S1x2048 .f32 from V m c main_v1) (ix2 0 k) := by
    blk_ext! [iblk, idx t]
  rw [e, V_v1]
  pointwise []

theorem g_at (k : Fin 2048) (f : Fin 512) (f' : Fin 5632) (hf : f'.val = t.val % 11 * 512 + f.val) :
    (show FVec Ideal S1x2048x512 .bf16 from iblk m c 2 t) (ix3 0 k f) = aG m c (ix3 0 k f') := by
  blk_ext! [iblk, V, idx t]

theorem u_at (k : Fin 2048) (f : Fin 512) (f' : Fin 5632) (hf : f'.val = t.val % 11 * 512 + f.val) :
    (show FVec Ideal S1x2048x512 .bf16 from iblk m c 3 t) (ix3 0 k f) = aU m c (ix3 0 k f') := by
  blk_ext! [iblk, V, idx t]

theorem d_at (f : Fin 512) (l : Fin 2048) (f' : Fin 5632) (hf : f'.val = t.val % 11 * 512 + f.val) :
    (show FVec Ideal S1x512x2048 .bf16 from iblk m c 4 t) (ix3 0 f l) = aD m c (ix3 0 f' l) := by
  blk_ext! [iblk, V, idx t]

/-- The blocks of point `t` are the parts of the arrays that the sweep reads there. -/
theorem blocks : Cert.FfnSweep.Blocks (aX m c) (aW m c) (aG m c) (aU m c) (aD m c) t.val (iblk m c 0 t) (iblk m c 1 t) (iblk m c 2 t)
    (iblk m c 3 t) (iblk m c 4 t) :=
  ⟨lt_of_lt_of_eq t.isLt (show cfg0.N = 176 from N_0), x_at m c t, w_at m c t, g_at m c t, u_at m c t, d_at m c t⟩

theorem held : ∀ (n : ℕ) (h : n < cfg0.N), n % 11 < 10 →
    Cert.FfnSweep.Held (aX m c) (aW m c) (aG m c) (aU m c) (aD m c) n (outsAt0 m c n h) := by
  intro n
  induction n with
  | zero =>
    intro h _
    rw [left_A m c ⟨0, h⟩ rfl (by show ¬0 % 11 = 10; omega)]
    exact (blocks m c ⟨0, h⟩).first rfl
  | succ n ih =>
    intro h hm
    by_cases h0 : (n + 1) % 11 = 0
    · rw [left_A m c ⟨n + 1, h⟩ h0 (by show ¬(n + 1) % 11 = 10; omega)]
      exact (blocks m c ⟨n + 1, h⟩).first h0
    · rw [left_B m c ⟨n + 1, h⟩ h0 (by show ¬(n + 1) % 11 = 10; omega) _ rfl]
      exact (blocks m c ⟨n + 1, h⟩).next h0 (ih (Nat.lt_of_succ_lt h) (by omega))

/-- What a row block's last point leaves in the output: the result's rows. -/
theorem last_at (h1 : t.val % 11 = 10) (r : Fin 1024) (l : Fin 2048) :
    (show FVec Ideal S1024x2048 .f32 from (outsAt0 m c t.val t.isLt).1) (ix2 r l)
      = Cert.FfnRefIdeal.Pure.res (aX m c) (aW m c) (aG m c) (aU m c) (aD m c) (aF m c) (Cert.FfnSweep.row t.val (blocks m c t).lt r) l := by
  have hs := fun l => ((blocks m c t).next (by omega)
    (held m c (t.val - 1) (Nat.lt_of_le_of_lt (Nat.sub_le _ _) t.isLt) (by omega))).last h1 (blocks m c t).lt r l
  rw [left_C m c t (by omega) h1 _ rfl]
  refine (pay3_at _ (iblk m c 5 t) r l).trans ?_
  unfold Cert.FfnRefIdeal.Pure.res
  exact congrArg₂ (fun (a b : EReal) => a * b)
    (congrArg₂ (fun (a b : EReal) => a * b) (hs l) (congrArg scl (funext hs))) (f_at m c t l)

/-- The result array after the run is the reference's. -/
theorem final : (dats m 0 c).arrAt 6 (cfgs 0).N
    = Cert.FfnRefIdeal.Pure.refT (aX m c) (aW m c) (aG m c) (aU m c) (aD m c) (aF m c) := by
  refine (dats m 0 c).arrAt_eq_of_covers 6 _ (by decide +kernel) fun t hf y => ?_
  blk_simp
  rw [after0_6]
  idx_vars y
  refine (last_at m c t ((flush0_6 t).mp hf) y0 y1).trans ?_
  refine (Cert.FfnRefIdeal.Pure.ref_at _ _ _ _ _ _ _ _).symm.trans ?_
  refine congrArg _ ?_
  blk_ext! [Cert.FfnSweep.row, idx t]

end Cert.FfnIdeal.Value

end
-- ==== Proof.FfnRun.lean ====
/- The feed-forward layer's two runs, each ending with the same array of its arguments. -/
module

public import proofs.«01_k».proof.Proof.FfnValue

@[expose] public section

noncomputable section

open Idealize.ShloMosaic Idealize.ShloMosaic.TcCoe Idealize.SL.Sem

/-- The kernel's run ends with the layer of its arguments, which it leaves as they were. -/
theorem Cert.FfnIdeal.Value.runs (m : (ℓ : Loc FfnIdeal.nD FfnIdeal.τ FfnIdeal.sig) → Buf (Elt Ideal) ℓ) (ρ : Dev FfnIdeal.nD → PrngReg) :
    θ_run FfnIdeal.defs (onTc (τ := FfnIdeal.τ) (FfnIdeal.main (F := Ideal))) ⟨m, fun _ => 0, ρ⟩ fun r => ∀ c : Dev FfnIdeal.nD,
      r.2.mem ((c.tc : Thread FfnIdeal.nD FfnIdeal.τ).loc FfnIdeal.main_v2)
        = FfnRefIdeal.Pure.refT (aX m c) (aW m c) (aG m c) (aU m c) (aD m c) (aF m c)
      ∧ r.2.mem ((c.tc : Thread FfnIdeal.nD FfnIdeal.τ).loc FfnIdeal.main_arg0) = m ((c.tc : Thread FfnIdeal.nD FfnIdeal.τ).loc FfnIdeal.main_arg0)
      ∧ r.2.mem ((c.tc : Thread FfnIdeal.nD FfnIdeal.τ).loc FfnIdeal.main_arg1) = m ((c.tc : Thread FfnIdeal.nD FfnIdeal.τ).loc FfnIdeal.main_arg1)
      ∧ r.2.mem ((c.tc : Thread FfnIdeal.nD FfnIdeal.τ).loc FfnIdeal.main_arg2) = m ((c.tc : Thread FfnIdeal.nD FfnIdeal.τ).loc FfnIdeal.main_arg2)
      ∧ r.2.mem ((c.tc : Thread FfnIdeal.nD FfnIdeal.τ).loc FfnIdeal.main_arg3) = m ((c.tc : Thread FfnIdeal.nD FfnIdeal.τ).loc FfnIdeal.main_arg3)
      ∧ r.2.mem ((c.tc : Thread FfnIdeal.nD FfnIdeal.τ).loc FfnIdeal.main_arg4) = m ((c.tc : Thread FfnIdeal.nD FfnIdeal.τ).loc FfnIdeal.main_arg4)
      ∧ r.2.mem ((c.tc : Thread FfnIdeal.nD FfnIdeal.τ).loc FfnIdeal.main_arg5) = m ((c.tc : Thread FfnIdeal.nD FfnIdeal.τ).loc FfnIdeal.main_arg5) :=
  (θ_run FfnIdeal.defs _ _).mono
    (fun r h c => ⟨(h c).1.trans ((FfnIdeal.Value.final6 m c).symm.trans (FfnIdeal.Value.final m c)), (h c).2⟩)
    (FfnIdeal.Value.run m ρ)

end
-- ==== Proof.FfnClaims.lean ====
/- The claims about the feed-forward layer. -/
module

public import proofs.«01_k».proof.Defs
public import proofs.«01_k».proof.Proof.FfnRun
public import proofs.«01_k».proof.Proof.Gen.Ffn.Frame

@[expose] public section

noncomputable section

namespace Cert.Proof.Ffn

open Idealize.ShloMosaic Idealize.ShloMosaic.TcCoe Idealize.SL.Sem

theorem frame_p : Cert.quiescent_Ffn := fun m ρ _ => Cert.Ffn.Gen.frame m ρ

theorem frame_i : Cert.quiescent_FfnIdeal := fun m ρ _ => Cert.FfnIdeal.Gen.frame m ρ

/-- The reference declares no semaphore, and its run leaves its arguments. -/
theorem frame_r : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

/-- Both runs end with the reference's term of the arguments: the kernel's by `Value.runs`, the reference's by its own
    run, the arguments being the same. -/
theorem algebraic : Cert.algebraic_FfnIdeal_FfnRefIdeal := by
  intro m ρ m' ρ' _ hag
  refine ⟨fun c => Cert.FfnRefIdeal.Pure.refT (Cert.FfnIdeal.Value.aX m c) (Cert.FfnIdeal.Value.aW m c) (Cert.FfnIdeal.Value.aG m c)
    (Cert.FfnIdeal.Value.aU m c) (Cert.FfnIdeal.Value.aD m c) (Cert.FfnIdeal.Value.aF m c), Cert.FfnIdeal.Value.runs m ρ, ?_⟩
  refine (θ_run Cert.FfnRefIdeal.defs _ _).mono (fun r h c => ⟨(h c).1.trans ?_, (h c).2⟩) (Cert.FfnRefIdeal.Value.run m' ρ')
  refine (Cert.FfnRefIdeal.Pure.res_eq m' c).trans ?_
  obtain ⟨h0, h1, h2, h3, h4, h5⟩ := hag c
  rw [h0, h1, h2, h3, h4, h5]

end Cert.Proof.Ffn

end
-- ==== Proof.InprojSpec.lean ====
/- The input projection, entry by entry, over the extended reals: the reference's composed term and the
   kernel's stored blocks. -/
module

public import proofs.«01_k».proof.Proof.FfnSpec
public import proofs.«01_k».proof.Proof.Gen.InprojIdeal.Skeleton
public import proofs.«01_k».proof.Proof.Gen.InprojRefIdeal.Run
public import Idealize.ShloMosaic.Lib.Pointwise

@[expose] public section

set_option maxRecDepth 16384

noncomputable section

namespace Cert.InprojRefIdeal.Pure

open Cert.InprojRefIdeal Cert.InprojRefIdeal.Gen Idealize.ShloMosaic Idealize.ShloMosaic.TcCoe Cert.FfnSpec

/-- The reference's normalisation, its operations in order. -/
def normT (X : FVec Ideal S16384x2048 .f32) (W : FVec Ideal S2048 .f32) : FVec Ideal S16384x2048 .f32 :=
  mulf (mulf X (broadcastInDim S16384x2048 ![0, 1] bcast_S16384x1_S16384x2048_0_1 (Host.rsqrt (addf (Host.divf
    (broadcastInDim S16384x1 ![0] bcast_S16384_S16384x1_0 (Host.reduceAdd (mulf X X) (constant S_ .f32 0x00000000#32) reducesTo_S16384x2048_S16384_d1 h_S_))
    (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 W))

/-- The reference's projection: the normalised rows times the transposed weight. -/
def projT (X : FVec Ideal S16384x2048 .f32) (W : FVec Ideal S2048 .f32) (I : FVec Ideal S1x7168x2048 .bf16) : FVec Ideal S16384x7168 .f32 :=
  Host.dotGeneral dot_S16384x2048_S2048x7168_S16384x7168_1_0_0_1_n_n none (normT X W)
    (transpose S2048x7168 [1, 0] (extf .f32 (shapeCast _ I shapeCasts_S1x7168x2048_S7168x2048 : FVec Ideal S7168x2048 .bf16) bitsLt_bf16_f32)
      transposes_S7168x2048_S2048x7168_1_0)

theorem normT_at (X : FVec Ideal S16384x2048 .f32) (W : FVec Ideal S2048 .f32) (r : Fin 16384) (k : Fin 2048) :
    normT X W (ix2 r k) = X (ix2 r k) * scl (fun k => X (ix2 r k)) * W (ix1 k) := by
  pointwise [normT, scl]

/-- The normalised input at row `r`, column `k`. -/
def nrm (X : FVec Ideal S16384x2048 .f32) (W : FVec Ideal S2048 .f32) (r : Fin 16384) (k : Fin 2048) : EReal :=
  X (ix2 r k) * scl (fun k => X (ix2 r k)) * W (ix1 k)

theorem projT_at (X : FVec Ideal S16384x2048 .f32) (W : FVec Ideal S2048 .f32) (I : FVec Ideal S1x7168x2048 .bf16) (r : Fin 16384) (l : Fin 7168) :
    projT X W I (ix2 r l) = ∑ k : Fin 2048, nrm X W r k * I (ix3 0 l k) := by
  have h : projT X W I (ix2 r l) = ∑ k : Fin 2048, normT X W (ix2 r k) * I (ix3 0 l k) := by
    unfold projT
    generalize normT X W = N
    pointwise []
  rw [h]
  simp only [normT_at]
  rfl

end Cert.InprojRefIdeal.Pure

namespace Cert.InprojIdeal.Pure

open Cert.InprojIdeal Cert.InprojIdeal.Gen Idealize.ShloMosaic Idealize.ShloMosaic.TcCoe Cert.FfnSpec

theorem pay2_at (x : FVec Ideal S1024x2048 .f32) (w : FVec Ideal S1x2048 .f32) (r : Fin 1024) (k : Fin 2048) :
    k0_pay2 (F := Ideal) x w (ix2 r k) = x (ix2 r k) * scl (fun k => x (ix2 r k)) * w (ix2 0 k) := by
  pointwise [k0_pay2, scl]

theorem pay3_at (n : FVec Ideal S1024x2048 .bf16) (w : FVec Ideal S1x1792x2048 .bf16) (r : Fin 1024) (l : Fin 1792) :
    k0_pay3 (F := Ideal) n w (ix2 r l) = ∑ k : Fin 2048, n (ix2 r k) * w (ix3 0 l k) := by
  pointwise [k0_pay3]

theorem pay1_at (x : FVec Ideal S1x128x2048 .f32) (i : Fin 128) (k : Fin 2048) : k0_pay1 (F := Ideal) x (ix3 0 i k) = x (ix3 0 i k) := by
  pointwise [k0_pay1]

theorem pay4_at (x : FVec Ideal S1x32x2048 .f32) (i : Fin 32) (k : Fin 2048) : k0_pay4 (F := Ideal) x (ix3 0 i k) = x (ix3 0 i k) := by
  pointwise [k0_pay4]

theorem pay5_at (x : FVec Ideal S1x32x5632 .f32) (i : Fin 32) (k : Fin 5632) : k0_pay5 (F := Ideal) x (ix3 0 i k) = x (ix3 0 i k) := by
  pointwise [k0_pay5]

theorem pay6_at (x : FVec Ideal S1x32x5632 .f32) (i : Fin 32) (k : Fin 5632) : k0_pay6 (F := Ideal) x (ix3 0 i k) = x (ix3 0 i k) := by
  pointwise [k0_pay6]

end Cert.InprojIdeal.Pure
-- ==== Proof.InprojValue.lean ====
/- What the input projection's launch leaves in its five result arrays: the reference's arrays. -/
module

public import proofs.«01_k».proof.Proof.InprojSpec
public import proofs.«01_k».proof.Proof.Gen.InprojIdeal.Value
public import Idealize.ShloMosaic.Lib.Pipeline.ReadBack
public import Idealize.ShloMosaic.Lib.Pipeline.ValueKit

@[expose] public section

set_option maxRecDepth 16384

noncomputable section

namespace Cert.InprojIdeal.Value

open Cert.InprojIdeal Cert.InprojIdeal.Gen Cert.InprojIdeal.Pure Idealize.ShloMosaic Idealize.ShloMosaic.TcCoe Idealize.SL.Sem Cert.FfnSpec
open Idealize.ShloMosaic.Pipeline (Dat)

variable (m : (ℓ : Loc nD τ sig) → Buf (Elt Ideal) ℓ) (c : Dev nD) (t : Fin cfg0.N)

/-- The block index of each window that the value is read through, at all points. -/
theorem idx : ∀ t : Fin cfg0.N, win0_0.index t = ![t.val / 4, 0] ∧ win0_1.index t = ![0, 0] ∧ win0_2.index t = ![0, t.val % 4, 0]
    ∧ win0_7.index t = ![t.val / 4, t.val % 4] ∧ win0_3.index t = ![0, t.val, 0] ∧ win0_4.index t = ![0, t.val, 0] ∧ win0_5.index t = ![0, t.val, 0]
    ∧ win0_6.index t = ![0, min t.val 43, 0] ∧ win0_8.index t = ![0, t.val, 0] ∧ win0_9.index t = ![0, t.val, 0] ∧ win0_10.index t = ![0, t.val, 0]
    ∧ win0_11.index t = ![0, min t.val 43, 0] :=
  (by decide +kernel : ∀ t : Fin grid0.N, _)

theorem left_A (h0 : t.val % 4 = 0) :
    outsAt0 m c t.val t.isLt = (k0_pay3 (F := Ideal) (k0_pay2 (F := Ideal) (iblk m c 0 t) (iblk m c 1 t)) (iblk m c 2 t),
      k0_pay4 (F := Ideal) (iblk m c 3 t), k0_pay5 (F := Ideal) (iblk m c 4 t), k0_pay6 (F := Ideal) (iblk m c 5 t), k0_pay1 (F := Ideal) (iblk m c 6 t),
      k0_pay2 (F := Ideal) (iblk m c 0 t) (iblk m c 1 t)) := by
  rw [outsAt0_A m c t h0]
  refine Prod.ext ?_ (Prod.ext ?_ (Prod.ext ?_ (Prod.ext ?_ (Prod.ext ?_ ?_))))
  all_goals dsimp only
  all_goals frame_out

theorem left_B (h0 : ¬t.val % 4 = 0) (n : Vec Ideal S1024x2048 .bf16)
    (ha : (outsAt0 m c (t.val - 1) (Nat.lt_of_le_of_lt (Nat.sub_le _ _) t.isLt)).2.2.2.2.2 = n) :
    outsAt0 m c t.val t.isLt = (k0_pay3 (F := Ideal) n (iblk m c 2 t),
      k0_pay4 (F := Ideal) (iblk m c 3 t), k0_pay5 (F := Ideal) (iblk m c 4 t), k0_pay6 (F := Ideal) (iblk m c 5 t), k0_pay1 (F := Ideal) (iblk m c 6 t),
      n) := by
  rw [outsAt0_B m c t h0, ha]
  refine Prod.ext ?_ (Prod.ext ?_ (Prod.ext ?_ (Prod.ext ?_ (Prod.ext ?_ ?_))))
  · dsimp only
    frame_out
    simp only [read_unread_whole]
  · dsimp only
    frame_out
  · dsimp only
    frame_out
  · dsimp only
    frame_out
  · dsimp only
    frame_out
  · rfl

theorem V_v0 : V m c main_v0 = shapeCast S1x2048 (m ((c : Thread nD τ).loc main_arg1)) shapeCasts_S2048_S1x2048 := by
  unfold V; after_results; try rfl

/-- The arguments' arrays at their literal types. -/
abbrev aX : FVec Ideal S16384x2048 .f32 := m ((c : Thread nD τ).loc main_arg0)
abbrev aW : FVec Ideal S2048 .f32 := m ((c : Thread nD τ).loc main_arg1)
abbrev aI : FVec Ideal S1x7168x2048 .bf16 := m ((c : Thread nD τ).loc main_arg2)
abbrev aO : FVec Ideal S1x2048x2048 .f32 := m ((c : Thread nD τ).loc main_arg3)
abbrev aG : FVec Ideal S1x2048x5632 .f32 := m ((c : Thread nD τ).loc main_arg4)
abbrev aU : FVec Ideal S1x2048x5632 .f32 := m ((c : Thread nD τ).loc main_arg5)
abbrev aD : FVec Ideal S1x5632x2048 .f32 := m ((c : Thread nD τ).loc main_arg6)

theorem x_at (r : Fin 1024) (k : Fin 2048) (r' : Fin 16384) (hr : r'.val = t.val / 4 * 1024 + r.val) :
    (show FVec Ideal S1024x2048 .f32 from iblk m c 0 t) (ix2 r k) = aX m c (ix2 r' k) := by
  blk_ext! [iblk, V, idx t]

theorem w_at (k : Fin 2048) : (show FVec Ideal S1x2048 .f32 from iblk m c 1 t) (ix2 0 k) = aW m c (ix1 k) := by
  have e : (show FVec Ideal S1x2048 .f32 from iblk m c 1 t) (ix2 0 k) = (show FVec Ideal S1x2048 .f32 from V m c main_v0) (ix2 0 k) := by
    blk_ext! [iblk, idx t]
  rw [e, V_v0]
  pointwise []

theorem i_at (l : Fin 1792) (k : Fin 2048) (l' : Fin 7168) (hl : l'.val = t.val % 4 * 1792 + l.val) :
    (show FVec Ideal S1x1792x2048 .bf16 from iblk m c 2 t) (ix3 0 l k) = aI m c (ix3 0 l' k) := by
  blk_ext! [iblk, V, idx t]

/-- The array row that row `r` of the block at point `t` is. -/
def row (r : Fin 1024) : Fin 16384 :=
  ⟨t.val / 4 * 1024 + r.val, by have := lt_of_lt_of_eq t.isLt (show cfg0.N = 64 from N_0); omega⟩

/-- The array column that column `l` of the block at point `t` is. -/
def col (l : Fin 1792) : Fin 7168 := ⟨t.val % 4 * 1792 + l.val, by omega⟩

theorem norm_at (r : Fin 1024) (k : Fin 2048) :
    k0_pay2 (F := Ideal) (iblk m c 0 t) (iblk m c 1 t) (ix2 r k) = Cert.InprojRefIdeal.Pure.nrm (aX m c) (aW m c) (row t r) k := by
  have e : ∀ k, (show FVec Ideal S1024x2048 .f32 from iblk m c 0 t) (ix2 r k) = aX m c (ix2 (row t r) k) := fun k => x_at m c t r k _ rfl
  refine (pay2_at (iblk m c 0 t) (iblk m c 1 t) r k).trans ?_
  unfold Cert.InprojRefIdeal.Pure.nrm
  exact congrArg₂ (fun (a b : EReal) => a * b)
    (congrArg₂ (fun (a b : EReal) => a * b) (e k) (congrArg scl (funext e))) (w_at m c t k)

/-- The carried buffer holds the normalised rows of the row block, after every point. -/
theorem held : ∀ (n : ℕ) (h : n < cfg0.N) (r : Fin 1024) (k : Fin 2048),
    (show FVec Ideal S1024x2048 .bf16 from (outsAt0 m c n h).2.2.2.2.2) (ix2 r k) = Cert.InprojRefIdeal.Pure.nrm (aX m c) (aW m c) (row ⟨n, h⟩ r) k := by
  intro n
  induction n with
  | zero =>
    intro h r k
    rw [left_A m c ⟨0, h⟩ rfl]
    exact norm_at m c ⟨0, h⟩ r k
  | succ n ih =>
    intro h r k
    by_cases h0 : (n + 1) % 4 = 0
    · rw [left_A m c ⟨n + 1, h⟩ h0]
      exact norm_at m c ⟨n + 1, h⟩ r k
    · rw [left_B m c ⟨n + 1, h⟩ h0 _ rfl]
      refine (ih (Nat.lt_of_succ_lt h) r k).trans ?_
      refine congrArg (fun r => Cert.InprojRefIdeal.Pure.nrm (aX m c) (aW m c) r k) (Fin.ext ?_)
      show n / 4 * 1024 + r.val = (n + 1) / 4 * 1024 + r.val
      rw [show n / 4 = (n + 1) / 4 by omega]

/-- What a point leaves in each result's block. -/
theorem left : ∃ n : Vec Ideal S1024x2048 .bf16,
    (∀ r k, (show FVec Ideal S1024x2048 .bf16 from n) (ix2 r k) = Cert.InprojRefIdeal.Pure.nrm (aX m c) (aW m c) (row t r) k)
    ∧ outsAt0 m c t.val t.isLt = (k0_pay3 (F := Ideal) n (iblk m c 2 t), k0_pay4 (F := Ideal) (iblk m c 3 t), k0_pay5 (F := Ideal) (iblk m c 4 t),
      k0_pay6 (F := Ideal) (iblk m c 5 t), k0_pay1 (F := Ideal) (iblk m c 6 t), n) := by
  by_cases h0 : t.val % 4 = 0
  · exact ⟨_, norm_at m c t, left_A m c t h0⟩
  · refine ⟨_, fun r k => ?_, left_B m c t h0 _ rfl⟩
    refine (held m c (t.val - 1) _ r k).trans ?_
    refine congrArg (fun r => Cert.InprojRefIdeal.Pure.nrm (aX m c) (aW m c) r k) (Fin.ext ?_)
    show (t.val - 1) / 4 * 1024 + r.val = t.val / 4 * 1024 + r.val
    rw [show (t.val - 1) / 4 = t.val / 4 by omega]

theorem proj_at (r : Fin 1024) (l : Fin 1792) :
    (show FVec Ideal S1024x1792 .f32 from (outsAt0 m c t.val t.isLt).1) (ix2 r l)
      = Cert.InprojRefIdeal.Pure.projT (aX m c) (aW m c) (aI m c) (ix2 (row t r) (col t l)) := by
  obtain ⟨n, hn, e⟩ := left m c t
  rw [e]
  refine (pay3_at n (iblk m c 2 t) r l).trans ?_
  refine Eq.trans ?_ (Cert.InprojRefIdeal.Pure.projT_at _ _ _ _ _).symm
  exact Finset.sum_congr rfl fun k _ => congrArg₂ (fun (a b : EReal) => a * b) (hn r k) (i_at m c t l k _ rfl)

/-- The projection's array after the run. -/
theorem final7 : (dats m 0 c).arrAt 7 (cfgs 0).N = Cert.InprojRefIdeal.Pure.projT (aX m c) (aW m c) (aI m c) := by
  refine (dats m 0 c).arrAt_eq_of_covers 7 _ (by decide +kernel) fun t hf y => ?_
  blk_simp
  rw [after0_7]
  idx_vars y
  refine (proj_at m c t y0 y1).trans ?_
  refine congrArg _ ?_
  blk_ext! [row, col, idx t]

/-- The cast of the output projection's weight after the run. -/
theorem final8 : (dats m 0 c).arrAt 8 (cfgs 0).N = (aO m c : S1x2048x2048.Idx → EReal) := by
  refine (dats m 0 c).arrAt_eq_of_covers 8 _ (by decide +kernel) fun t hf y => ?_
  blk_simp
  rw [after0_8]
  obtain ⟨n, -, e⟩ := left m c t
  rw [e]
  idx_vars y
  obtain rfl : y0 = 0 := Subsingleton.elim _ _
  refine (pay4_at (iblk m c 3 t) y1 y2).trans ?_
  blk_ext! [iblk, V, idx t]

/-- The cast of the gate's weight after the run. -/
theorem final9 : (dats m 0 c).arrAt 9 (cfgs 0).N = (aG m c : S1x2048x5632.Idx → EReal) := by
  refine (dats m 0 c).arrAt_eq_of_covers 9 _ (by decide +kernel) fun t hf y => ?_
  blk_simp
  rw [after0_9]
  obtain ⟨n, -, e⟩ := left m c t
  rw [e]
  idx_vars y
  obtain rfl : y0 = 0 := Subsingleton.elim _ _
  refine (pay5_at (iblk m c 4 t) y1 y2).trans ?_
  blk_ext! [iblk, V, idx t]

/-- The cast of the up weight after the run. -/
theorem final10 : (dats m 0 c).arrAt 10 (cfgs 0).N = (aU m c : S1x2048x5632.Idx → EReal) := by
  refine (dats m 0 c).arrAt_eq_of_covers 10 _ (by decide +kernel) fun t hf y => ?_
  blk_simp
  rw [after0_10]
  obtain ⟨n, -, e⟩ := left m c t
  rw [e]
  idx_vars y
  obtain rfl : y0 = 0 := Subsingleton.elim _ _
  refine (pay6_at (iblk m c 5 t) y1 y2).trans ?_
  blk_ext! [iblk, V, idx t]

/-- The cast of the down weight after the run. -/
theorem final11 : (dats m 0 c).arrAt 11 (cfgs 0).N = (aD m c : S1x5632x2048.Idx → EReal) := by
  refine (dats m 0 c).arrAt_eq_of_covers 11 _ (by decide +kernel) fun t hf y => ?_
  blk_simp
  rw [after0_11]
  obtain ⟨n, -, e⟩ := left m c t
  rw [e]
  idx_vars y
  obtain rfl : y0 = 0 := Subsingleton.elim _ _
  refine (pay1_at (iblk m c 6 t) y1 y2).trans ?_
  blk_ext! [iblk, V, idx t]

end Cert.InprojIdeal.Value
-- ==== Proof.InprojRun.lean ====
/- The input projection's run ends with the reference's five arrays of its arguments. -/
module

public import proofs.«01_k».proof.Proof.InprojValue

@[expose] public section

noncomputable section

open Idealize.ShloMosaic Idealize.ShloMosaic.TcCoe Idealize.SL.Sem

/-- The kernel's run ends with the projection and the four casts of its arguments, which it leaves as they were. -/
theorem Cert.InprojIdeal.Value.runs (m : (ℓ : Loc InprojIdeal.nD InprojIdeal.τ InprojIdeal.sig) → Buf (Elt Ideal) ℓ) (ρ : Dev InprojIdeal.nD → PrngReg) :
    θ_run InprojIdeal.defs (onTc (τ := InprojIdeal.τ) (InprojIdeal.main (F := Ideal))) ⟨m, fun _ => 0, ρ⟩ fun r => ∀ c : Dev InprojIdeal.nD,
      r.2.mem ((c.tc : Thread InprojIdeal.nD InprojIdeal.τ).loc InprojIdeal.main_v1_0) = InprojRefIdeal.Pure.projT (aX m c) (aW m c) (aI m c)
      ∧ r.2.mem ((c.tc : Thread InprojIdeal.nD InprojIdeal.τ).loc InprojIdeal.main_v1_1) = (aO m c : InprojIdeal.S1x2048x2048.Idx → EReal)
      ∧ r.2.mem ((c.tc : Thread InprojIdeal.nD InprojIdeal.τ).loc InprojIdeal.main_v1_2) = (aG m c : InprojIdeal.S1x2048x5632.Idx → EReal)
      ∧ r.2.mem ((c.tc : Thread InprojIdeal.nD InprojIdeal.τ).loc InprojIdeal.main_v1_3) = (aU m c : InprojIdeal.S1x2048x5632.Idx → EReal)
      ∧ r.2.mem ((c.tc : Thread InprojIdeal.nD InprojIdeal.τ).loc InprojIdeal.main_v1_4) = (aD m c : InprojIdeal.S1x5632x2048.Idx → EReal)
      ∧ r.2.mem ((c.tc : Thread InprojIdeal.nD InprojIdeal.τ).loc InprojIdeal.main_arg0) = m ((c.tc : Thread InprojIdeal.nD InprojIdeal.τ).loc InprojIdeal.main_arg0)
      ∧ r.2.mem ((c.tc : Thread InprojIdeal.nD InprojIdeal.τ).loc InprojIdeal.main_arg1) = m ((c.tc : Thread InprojIdeal.nD InprojIdeal.τ).loc InprojIdeal.main_arg1)
      ∧ r.2.mem ((c.tc : Thread InprojIdeal.nD InprojIdeal.τ).loc InprojIdeal.main_arg2) = m ((c.tc : Thread InprojIdeal.nD InprojIdeal.τ).loc InprojIdeal.main_arg2)
      ∧ r.2.mem ((c.tc : Thread InprojIdeal.nD InprojIdeal.τ).loc InprojIdeal.main_arg3) = m ((c.tc : Thread InprojIdeal.nD InprojIdeal.τ).loc InprojIdeal.main_arg3)
      ∧ r.2.mem ((c.tc : Thread InprojIdeal.nD InprojIdeal.τ).loc InprojIdeal.main_arg4) = m ((c.tc : Thread InprojIdeal.nD InprojIdeal.τ).loc InprojIdeal.main_arg4)
      ∧ r.2.mem ((c.tc : Thread InprojIdeal.nD InprojIdeal.τ).loc InprojIdeal.main_arg5) = m ((c.tc : Thread InprojIdeal.nD InprojIdeal.τ).loc InprojIdeal.main_arg5)
      ∧ r.2.mem ((c.tc : Thread InprojIdeal.nD InprojIdeal.τ).loc InprojIdeal.main_arg6) = m ((c.tc : Thread InprojIdeal.nD InprojIdeal.τ).loc InprojIdeal.main_arg6) :=
  (θ_run InprojIdeal.defs _ _).mono
    (fun r h c => ⟨(h c).1.trans (final7 m c), (h c).2.1.trans (final8 m c), (h c).2.2.1.trans (final9 m c),
      (h c).2.2.2.1.trans (final10 m c), (h c).2.2.2.2.1.trans (final11 m c), (h c).2.2.2.2.2⟩)
    (InprojIdeal.Value.run_blocks m ρ)

end
-- ==== Proof.InprojClaims.lean ====
/- The claims about the input projection. -/
module

public import proofs.«01_k».proof.Defs
public import proofs.«01_k».proof.Proof.InprojRun
public import proofs.«01_k».proof.Proof.Gen.Inproj.Frame

@[expose] public section

noncomputable section

namespace Cert.Proof.Inproj

open Idealize.ShloMosaic Idealize.ShloMosaic.TcCoe Idealize.SL.Sem

theorem frame_p : Cert.quiescent_Inproj := fun m ρ _ => Cert.Inproj.Gen.frame m ρ

theorem frame_i : Cert.quiescent_InprojIdeal := fun m ρ _ => Cert.InprojIdeal.Gen.frame m ρ

/-- The reference declares no semaphore, and its run leaves its arguments. -/
theorem frame_r : Cert.quiescent_InprojRefIdeal := fun m ρ _ =>
  (θ_run Cert.InprojRefIdeal.defs _ _).mono (fun r h => ⟨fun c => (h c).2.2.2.2.2, sem_eq_zero_of_no_sems (by decide) r.2⟩)
    (Cert.InprojRefIdeal.Value.run m ρ)

/-- Both runs end with the projection and with the four weights: a change of float format is the identity over the
    extended reals. -/
theorem algebraic : Cert.algebraic_InprojIdeal_InprojRefIdeal := by
  intro m ρ m' ρ' _ hag
  refine ⟨fun c => Cert.InprojRefIdeal.Pure.projT (Cert.InprojIdeal.Value.aX m c) (Cert.InprojIdeal.Value.aW m c) (Cert.InprojIdeal.Value.aI m c),
    fun c => Cert.InprojIdeal.Value.aO m c, fun c => Cert.InprojIdeal.Value.aG m c, fun c => Cert.InprojIdeal.Value.aU m c,
    fun c => Cert.InprojIdeal.Value.aD m c, Cert.InprojIdeal.Value.runs m ρ, ?_⟩
  refine (θ_run Cert.InprojRefIdeal.defs _ _).mono (fun r h c => ?_) (Cert.InprojRefIdeal.Value.run m' ρ')
  obtain ⟨h0, h1, h2, h3, h4, h5, h6⟩ := hag c
  refine ⟨(h c).1.trans ?_, (h c).2.1.trans h3, (h c).2.2.1.trans h4, (h c).2.2.2.1.trans h5, (h c).2.2.2.2.1.trans h6, (h c).2.2.2.2.2⟩
  rw [h0, h1, h2]
  rfl

end Cert.Proof.Inproj

end
-- ==== Proof.lean ====
module

public import proofs.«01_k».proof.Defs
public import proofs.«01_k».proof.Proof.Gen.Kernel.Frame
public import proofs.«01_k».proof.Proof.Gen.Ffn.Frame
public import proofs.«01_k».proof.Proof.Gen.FfnIdeal.Value
public import proofs.«01_k».proof.Proof.Gen.FfnRefIdeal.Run
public import proofs.«01_k».proof.Proof.Gen.Inproj.Frame
public import proofs.«01_k».proof.Proof.Gen.InprojIdeal.Value
public import proofs.«01_k».proof.Proof.Gen.InprojRefIdeal.Run
public import proofs.«01_k».proof.Proof.Gen.KernelIdeal
public import proofs.«01_k».proof.Proof.Gen.FfnMid.Frame
public import proofs.«01_k».proof.Proof.Gen.FfnMidIdeal.Value
public import proofs.«01_k».proof.Proof.Gen.FfnMidRefIdeal.Run
public import proofs.«01_k».proof.Proof.MixersFrame
public import proofs.«01_k».proof.Proof.MixersIdealFrame
public import proofs.«01_k».proof.Proof.FfnMidClaims
public import proofs.«01_k».proof.Proof.FfnClaims
public import proofs.«01_k».proof.Proof.InprojClaims

@[expose] public section

noncomputable section

namespace Cert.Proof

theorem claim : Cert.Claim :=
  ⟨Cert.Kernel.Gen.facts, Cert.KernelIdeal.Gen.facts, Cert.Ffn.Gen.facts, Cert.FfnIdeal.Gen.facts, Cert.FfnRefIdeal.Gen.facts,
    Cert.FfnMid.Gen.facts, Cert.FfnMidIdeal.Gen.facts, Cert.FfnMidRefIdeal.Gen.facts, Cert.Inproj.Gen.facts, Cert.InprojIdeal.Gen.facts,
    Cert.InprojRefIdeal.Gen.facts, Mixers.frame_p, MixersIdeal.frame, Ffn.frame_p, Ffn.frame_i, Ffn.frame_r, FfnMid.frame_p,
    FfnMid.frame_i, FfnMid.frame_r, Inproj.frame_p, Inproj.frame_i, Inproj.frame_r, trivial, trivial, Ffn.algebraic, trivial,
    FfnMid.algebraic, trivial, Inproj.algebraic⟩

end Cert.Proof

end
